-- ==== Defs.lean ====
def Pre_Kernel (m : (ℓ : Loc Cert.Kernel.nD Cert.Kernel.τ Cert.Kernel.sig) → Buf (Elt Bits) ℓ) : Prop :=
  True

def Pre_Kernel_lens_in_range [hPre_lens_in_range : Cert.Pre_lens_in_range.Facts] (m : (ℓ : Loc Cert.Kernel.nD Cert.Kernel.τ Cert.Kernel.sig) → Buf (Elt Bits) ℓ) : Prop :=
  ∀ c : Dev Cert.Kernel.nD,
    (Cert.Pre_lens_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_lens_in_range [hPre_lens_in_range : Cert.Pre_lens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_in_range [hPre_lens_in_range : Cert.Pre_lens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_lens_in_range : Cert.Pre_lens_in_range.Facts] (m : (ℓ : Loc Cert.Reference.nD Cert.Reference.τ Cert.Reference.sig) → Buf (Elt Bits) ℓ) : Prop :=
  ∀ c : Dev Cert.Reference.nD,
    (Cert.Pre_lens_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_lens_in_range [hKernel : Cert.Kernel.Facts] [hPre_lens_in_range : Cert.Pre_lens_in_range.Facts] : Prop :=
  ∀ (m : (ℓ : Loc Cert.Kernel.nD Cert.Kernel.τ Cert.Kernel.sig) → Buf (Elt Bits) ℓ) (g : Dev Cert.Kernel.nD → PrngReg), Pre_Kernel_lens_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lens_in_range [hKernelIdeal : Cert.KernelIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lens_in_range [hReferenceIdeal : Cert.ReferenceIdeal.Facts] [hPre_lens_in_range : Cert.Pre_lens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_lens_in_range : Cert.Pre_lens_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def bitexact_Kernel_Reference_pre_lens_in_range [hKernel : Cert.Kernel.Facts] [hReference : Cert.Reference.Facts] [hPre_lens_in_range : Cert.Pre_lens_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_lens_in_range m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v11) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal_pre_lens_in_range [hKernelIdeal : Cert.KernelIdeal.Facts] [hReferenceIdeal : Cert.ReferenceIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_lens_in_range : Cert.Pre_lens_in_range.Facts),
    quiescent_Kernel (hKernel := hKernel)
    ∧ quiescent_Kernel_pre_lens_in_range (hKernel := hKernel) (hPre_lens_in_range := hPre_lens_in_range)
    ∧ quiescent_KernelIdeal (hKernelIdeal := hKernelIdeal)
    ∧ quiescent_KernelIdeal_pre_lens_in_range (hKernelIdeal := hKernelIdeal) (hPre_lens_in_range := hPre_lens_in_range)
    ∧ quiescent_ReferenceIdeal (hReferenceIdeal := hReferenceIdeal)
    ∧ quiescent_ReferenceIdeal_pre_lens_in_range (hReferenceIdeal := hReferenceIdeal) (hPre_lens_in_range := hPre_lens_in_range)
    ∧ quiescent_Reference (hReference := hReference) (hPre_lens_in_range := hPre_lens_in_range)
    ∧ preserves_Kernel_KernelIdeal
    ∧ bitexact_Kernel_Reference_pre_lens_in_range (hKernel := hKernel) (hReference := hReference) (hPre_lens_in_range := hPre_lens_in_range)
    ∧ algebraic_KernelIdeal_ReferenceIdeal_pre_lens_in_range (hKernelIdeal := hKernelIdeal) (hReferenceIdeal := hReferenceIdeal) (hPre_lens_in_range := hPre_lens_in_range)
-- ==== Pre_lens_in_range.lean ====
abbrev S16x2048x1024 : Shape := ⟨3, ![16, 2048, 1024]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x2048x1024 .f32) (main_arg1 : IVec S16 32) : IVec S16 1 :=
  let main_c : IVec S_ 32 := constantI S_ 32 2147484672#32
  let main_v0 : IVec S16 32 := broadcastInDim S16 ![] bcast_S_S16 main_c
  let main_v1 : IVec S16 1 := cmpi .sge main_arg1 main_v0
  main_v1
-- ==== Kernel.lean ====
abbrev S16x2048x1024 : Shape := ⟨3, ![16, 2048, 1024]⟩
abbrev S16 : Shape := ⟨1, ![16]⟩
abbrev S32768x1024 : Shape := ⟨2, ![32768, 1024]⟩
abbrev S1x1024 : Shape := ⟨2, ![1, 1024]⟩
abbrev S32x1024 : Shape := ⟨2, ![32, 1024]⟩
abbrev S_ : Shape := ⟨0, ![]⟩
abbrev S1 : Shape := ⟨1, ![1]⟩
abbrev S1x16 : Shape := ⟨2, ![1, 16]⟩

abbrev nBuf : Table → Nat
  | .hbm => 5
  | .local .scVector .vmem => 4
  | _ => 0

abbrev bufTy : (tb : Table) → Fin (nBuf tb) → BufTy
  | .hbm, ⟨0, _⟩ => ⟨S16x2048x1024, .f32⟩
  | .hbm, ⟨1, _⟩ => ⟨S16, .i32⟩
  | .hbm, ⟨2, _⟩ => ⟨S32768x1024, .f32⟩
  | .hbm, ⟨3, _⟩ => ⟨S32768x1024, .f32⟩
  | .hbm, ⟨4, _⟩ => ⟨S16x2048x1024, .f32⟩
  | .local .scVector .vmem, ⟨0, _⟩ => ⟨S16, .i32⟩
  | .local .scVector .vmem, ⟨1, _⟩ => ⟨S1x1024, .f32⟩
  | .local .scVector .vmem, ⟨2, _⟩ => ⟨S32x1024, .f32⟩
  | .local .scVector .vmem, ⟨3, _⟩ => ⟨S32x1024, .f32⟩
  | _, _ => ⟨S16x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_17 : BitVec 32 := 0#32
  let c64_i32 : BitVec 32 := 64#32
  let v41 : BitVec 32 := Scalar.addi c0_i32_17 c64_i32
  let c1_i32_18 : BitVec 32 := 1#32
  ⟨c0_i32_17, v41, c1_i32_18⟩
def k0_off1 (k0_t1 : Fin k0_t1_loop.trips) : Fin 2 → Nat :=
  let c0_i32_48 : BitVec 32 := 0#32
  let v80 : Index := Scalar.indexCast c0_i32_48
  let c0_i32_17 : BitVec 32 := 0#32
  let c1_i32_18 : BitVec 32 := 1#32
  let arg9 : BitVec 32 := Scf.iv c0_i32_17 c1_i32_18 k0_t1
  let c16_i32 : BitVec 32 := 16#32
  let v79 : BitVec 32 := Scalar.muli arg9 c16_i32
  let v81 : Index := Scalar.indexCast v79
  ![0, v81.toNat]
@[reducible] def k0_t2_loop : Scf.Loop 32 :=
  let c0_i32_21 : BitVec 32 := 0#32
  let c2048_i32 : BitVec 32 := 2048#32
  let v42 : BitVec 32 := Scalar.addi c0_i32_21 c2048_i32
  let c1_i32_22 : BitVec 32 := 1#32
  ⟨c0_i32_21, v42, c1_i32_22⟩
def k0_off2 (k0_t2 : Fin k0_t2_loop.trips) : Fin 2 → Nat :=
  let c0_i32_21 : BitVec 32 := 0#32
  let c1_i32_22 : BitVec 32 := 1#32
  let arg9 : BitVec 32 := Scf.iv c0_i32_21 c1_i32_22 k0_t2
  let c0_i32_49 : BitVec 32 := 0#32
  let v80 : BitVec 1 := Scalar.cmpi .sgt arg9 c0_i32_49
  let v81 : BitVec 32 := Scalar.extui v80
  let c0_i32_50 : BitVec 32 := 0#32
  let v82 : BitVec 1 := Scalar.cmpi .slt arg9 c0_i32_50
  let v83 : BitVec 32 := Scalar.extui v82
  let v84 : BitVec 32 := Scalar.subi v81 v83
  let c64_i32_48 : BitVec 32 := 64#32
  let c0_i32_51 : BitVec 32 := 0#32
  let v85 : BitVec 1 := Scalar.cmpi .sgt c64_i32_48 c0_i32_51
  let v86 : BitVec 32 := Scalar.extui v85
  let c0_i32_52 : BitVec 32 := 0#32
  let v87 : BitVec 1 := Scalar.cmpi .slt c64_i32_48 c0_i32_52
  let v88 : BitVec 32 := Scalar.extui v87
  let v89 : BitVec 32 := Scalar.subi v86 v88
  let v90 : BitVec 1 := Scalar.cmpi .ne v84 v89
  let v91 : BitVec 32 := Scalar.remsi arg9 c64_i32_48
  let c0_i32_53 : BitVec 32 := 0#32
  let v92 : BitVec 1 := Scalar.cmpi .ne v91 c0_i32_53
  let v93 : BitVec 1 := Scalar.andi v90 v92
  let v79 : BitVec 32 := Scalar.divsi arg9 c64_i32_48
  let c1_i32_54 : BitVec 32 := 1#32
  let v94 : BitVec 32 := Scalar.subi v79 c1_i32_54
  let v95 : BitVec 32 := Scalar.select v93 v94 v79
  let v107 : Index := Scalar.indexCast v95
  let c64_i32_55 : BitVec 32 := 64#32
  let c0_i32_56 : BitVec 32 := 0#32
  let v96 : BitVec 1 := Scalar.cmpi .eq c64_i32_55 c0_i32_56
  let c1_i32_57 : BitVec 32 := 1#32
  let v97 : BitVec 32 := Scalar.select v96 c1_i32_57 c64_i32_55
  let v98 : BitVec 32 := Scalar.remsi arg9 v97
  let c0_i32_59 : BitVec 32 := 0#32
  let v100 : BitVec 1 := Scalar.cmpi .slt v98 c0_i32_59
  let c0_i32_60 : BitVec 32 := 0#32
  let v101 : BitVec 1 := Scalar.cmpi .slt v97 c0_i32_60
  let v102 : BitVec 1 := Scalar.xori v100 v101
  let c0_i32_58 : BitVec 32 := 0#32
  let v99 : BitVec 1 := Scalar.cmpi .ne v98 c0_i32_58
  let v103 : BitVec 1 := Scalar.andi v102 v99
  let v104 : BitVec 32 := Scalar.addi v98 v97
  let v105 : BitVec 32 := Scalar.select v103 v104 v98
  let c16_i32 : BitVec 32 := 16#32
  let v106 : BitVec 32 := Scalar.muli v105 c16_i32
  let v108 : Index := Scalar.indexCast v106
  ![v107.toNat, v108.toNat]
@[reducible] def k0_t3_loop (i : grid0.Coords) (v25 : BitVec 32) : Scf.Loop 32 :=
  let c0_i32_33 : BitVec 32 := 0#32
  let c1024_i32_15 : BitVec 32 := 1024#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let v62 : BitVec 32 := Scalar.subi v61 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_35 : BitVec 32 := 1#32
  ⟨c0_i32_33, v66, c1_i32_35⟩

def k0_off3 (i : grid0.Coords) (v25 : BitVec 32) (k0_t3 : Fin (k0_t3_loop i v25).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_33 : BitVec 32 := 0#32
  let c1_i32_35 : BitVec 32 := 1#32
  let arg9 : BitVec 32 := Scf.iv c0_i32_33 c1_i32_35 k0_t3
  let c32_i32_48 : BitVec 32 := 32#32
  let v79 : BitVec 32 := Scalar.muli arg9 c32_i32_48
  let v80 : BitVec 32 := Scalar.addi v2 v79
  let c0_i32_49_r1 : BitVec 32 := 0#32
  ![v80.toNat, 0]
@[reducible] def k0_t4_loop (i : grid0.Coords) (v25 : BitVec 32) : Scf.Loop 32 :=
  let c0_i32_33 : BitVec 32 := 0#32
  let c1024_i32_15 : BitVec 32 := 1024#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let v62 : BitVec 32 := Scalar.subi v61 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let v63 : BitVec 32 := Scalar.addi c0_i32_33 v62
  let c1_i32_36 : BitVec 32 := 1#32
  ⟨v66, v63, c1_i32_36⟩
def k0_off4 (i : grid0.Coords) (v25 : BitVec 32) (k0_t4 : Fin (k0_t4_loop i v25).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_33 : BitVec 32 := 0#32
  let c1024_i32_15 : BitVec 32 := 1024#32
  let c0_i32_14 : BitVec 32 := 0#32
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let v62 : BitVec 32 := Scalar.subi v61 c0_i32_33
  let c1_i32_34 : BitVec 32 := 1#32
  let v64 : BitVec 32 := Scalar.divsi v62 c1_i32_34
  let v65 : BitVec 32 := Scalar.muli v64 c1_i32_34
  let v66 : BitVec 32 := Scalar.addi c0_i32_33 v65
  let c1_i32_36 : BitVec 32 := 1#32
  let arg9 : BitVec 32 := Scf.iv v66 c1_i32_36 k0_t4
  let c32_i32_48 : BitVec 32 := 32#32
  let v79 : BitVec 32 := Scalar.muli arg9 c32_i32_48
  let v80 : BitVec 32 := Scalar.addi v2 v79
  let c0_i32_49_r3 : BitVec 32 := 0#32
  ![v80.toNat, 0]
@[reducible] def k0_t5_loop (i : grid0.Coords) (v25 : BitVec 32) : Scf.Loop 32 :=
  let c1024_i32_15 : BitVec 32 := 1024#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let c32_i32_37 : BitVec 32 := 32#32
  let v67 : BitVec 32 := Scalar.muli v61 c32_i32_37
  let c1024_i32_38 : BitVec 32 := 1024#32
  let v68 : BitVec 32 := Scalar.minsi v67 c1024_i32_38
  let v69 : BitVec 32 := Scalar.subi v68 v39
  let c1_i32_40 : BitVec 32 := 1#32
  let v71 : BitVec 32 := Scalar.divsi v69 c1_i32_40
  let v72 : BitVec 32 := Scalar.muli v71 c1_i32_40
  let v73 : BitVec 32 := Scalar.addi v39 v72
  let c1_i32_41 : BitVec 32 := 1#32
  ⟨v39, v73, c1_i32_41⟩
def k0_off5 (i : grid0.Coords) (v25 : BitVec 32) (k0_t5 : Fin (k0_t5_loop i v25).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_15 : BitVec 32 := 1024#32
  let c0_i32_14 : BitVec 32 := 0#32
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c1_i32_41 : BitVec 32 := 1#32
  let arg9 : BitVec 32 := Scf.iv v39 c1_i32_41 k0_t5
  let v79 : BitVec 32 := Scalar.addi v2 arg9
  let c0_i32_48_r5 : BitVec 32 := 0#32
  ![v79.toNat, 0]
@[reducible] def k0_t6_loop (i : grid0.Coords) (v25 : BitVec 32) : Scf.Loop 32 :=
  let c1024_i32_15 : BitVec 32 := 1024#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let c32_i32_37 : BitVec 32 := 32#32
  let v67 : BitVec 32 := Scalar.muli v61 c32_i32_37
  let c1024_i32_38 : BitVec 32 := 1024#32
  let v68 : BitVec 32 := Scalar.minsi v67 c1024_i32_38
  let v69 : BitVec 32 := Scalar.subi v68 v39
  let c1_i32_40 : BitVec 32 := 1#32
  let v71 : BitVec 32 := Scalar.divsi v69 c1_i32_40
  let v72 : BitVec 32 := Scalar.muli v71 c1_i32_40
  let v73 : BitVec 32 := Scalar.addi v39 v72
  let v70 : BitVec 32 := Scalar.addi v39 v69
  let c1_i32_42 : BitVec 32 := 1#32
  ⟨v73, v70, c1_i32_42⟩
def k0_off6 (i : grid0.Coords) (v25 : BitVec 32) (k0_t6 : Fin (k0_t6_loop i v25).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_15 : BitVec 32 := 1024#32
  let c0_i32_14 : BitVec 32 := 0#32
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let c32_i32_37 : BitVec 32 := 32#32
  let v67 : BitVec 32 := Scalar.muli v61 c32_i32_37
  let c1024_i32_38 : BitVec 32 := 1024#32
  let v68 : BitVec 32 := Scalar.minsi v67 c1024_i32_38
  let v69 : BitVec 32 := Scalar.subi v68 v39
  let c1_i32_40 : BitVec 32 := 1#32
  let v71 : BitVec 32 := Scalar.divsi v69 c1_i32_40
  let v72 : BitVec 32 := Scalar.muli v71 c1_i32_40
  let v73 : BitVec 32 := Scalar.addi v39 v72
  let c1_i32_42 : BitVec 32 := 1#32
  let arg9 : BitVec 32 := Scf.iv v73 c1_i32_42 k0_t6
  let v79 : BitVec 32 := Scalar.addi v2 arg9
  let c0_i32_48_r6 : BitVec 32 := 0#32
  ![v79.toNat, 0]
@[reducible] def k0_t7_loop (i : grid0.Coords) (v25 : BitVec 32) : Scf.Loop 32 :=
  let c1024_i32_15 : BitVec 32 := 1024#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let c32_i32_44 : BitVec 32 := 32#32
  let v74 : BitVec 32 := Scalar.subi c32_i32_44 v61
  let c1_i32_45 : BitVec 32 := 1#32
  let v76 : BitVec 32 := Scalar.divsi v74 c1_i32_45
  let v77 : BitVec 32 := Scalar.muli v76 c1_i32_45
  let v78 : BitVec 32 := Scalar.addi v61 v77
  let c1_i32_46 : BitVec 32 := 1#32
  ⟨v61, v78, c1_i32_46⟩
def k0_off7 (i : grid0.Coords) (v25 : BitVec 32) (k0_t7 : Fin (k0_t7_loop i v25).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_15 : BitVec 32 := 1024#32
  let c0_i32_14 : BitVec 32 := 0#32
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let c1_i32_46 : BitVec 32 := 1#32
  let arg9 : BitVec 32 := Scf.iv v61 c1_i32_46 k0_t7
  let c32_i32_48 : BitVec 32 := 32#32
  let v79 : BitVec 32 := Scalar.muli arg9 c32_i32_48
  let v80 : BitVec 32 := Scalar.addi v2 v79
  let c0_i32_49_r7 : BitVec 32 := 0#32
  ![v80.toNat, 0]
@[reducible] def k0_t8_loop (i : grid0.Coords) (v25 : BitVec 32) : Scf.Loop 32 :=
  let c1024_i32_15 : BitVec 32 := 1024#32
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let c32_i32_44 : BitVec 32 := 32#32
  let v74 : BitVec 32 := Scalar.subi c32_i32_44 v61
  let c1_i32_45 : BitVec 32 := 1#32
  let v76 : BitVec 32 := Scalar.divsi v74 c1_i32_45
  let v77 : BitVec 32 := Scalar.muli v76 c1_i32_45
  let v78 : BitVec 32 := Scalar.addi v61 v77
  let v75 : BitVec 32 := Scalar.addi v61 v74
  let c1_i32_47 : BitVec 32 := 1#32
  ⟨v78, v75, c1_i32_47⟩
def k0_off8 (i : grid0.Coords) (v25 : BitVec 32) (k0_t8 : Fin (k0_t8_loop i v25).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_15 : BitVec 32 := 1024#32
  let c0_i32_14 : BitVec 32 := 0#32
  let c2_i32_7 : BitVec 32 := 2#32
  let c0_i32_8 : BitVec 32 := 0#32
  let v26 : BitVec 1 := Scalar.cmpi .eq c2_i32_7 c0_i32_8
  let c1_i32_9 : BitVec 32 := 1#32
  let v27 : BitVec 32 := Scalar.select v26 c1_i32_9 c2_i32_7
  let v28 : BitVec 32 := Scalar.remsi v1 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let c1024_i32_13 : BitVec 32 := 1024#32
  let v36 : BitVec 32 := Scalar.muli v35 c1024_i32_13
  let v37 : BitVec 32 := Scalar.subi v25 v36
  let v38 : BitVec 32 := Scalar.maxsi c0_i32_14 v37
  let v39 : BitVec 32 := Scalar.minsi c1024_i32_15 v38
  let c32_i32 : BitVec 32 := 32#32
  let v43 : BitVec 32 := Scalar.addi v39 c32_i32
  let c1_i32_24 : BitVec 32 := 1#32
  let v44 : BitVec 32 := Scalar.subi v43 c1_i32_24
  let c0_i32_26 : BitVec 32 := 0#32
  let v46 : BitVec 1 := Scalar.cmpi .sgt v44 c0_i32_26
  let v47 : BitVec 32 := Scalar.extui v46
  let c0_i32_27 : BitVec 32 := 0#32
  let v48 : BitVec 1 := Scalar.cmpi .slt v44 c0_i32_27
  let v49 : BitVec 32 := Scalar.extui v48
  let v50 : BitVec 32 := Scalar.subi v47 v49
  let c32_i32_25 : BitVec 32 := 32#32
  let c0_i32_28 : BitVec 32 := 0#32
  let v51 : BitVec 1 := Scalar.cmpi .sgt c32_i32_25 c0_i32_28
  let v52 : BitVec 32 := Scalar.extui v51
  let c0_i32_29 : BitVec 32 := 0#32
  let v53 : BitVec 1 := Scalar.cmpi .slt c32_i32_25 c0_i32_29
  let v54 : BitVec 32 := Scalar.extui v53
  let v55 : BitVec 32 := Scalar.subi v52 v54
  let v56 : BitVec 1 := Scalar.cmpi .ne v50 v55
  let v57 : BitVec 32 := Scalar.remsi v44 c32_i32_25
  let c0_i32_30 : BitVec 32 := 0#32
  let v58 : BitVec 1 := Scalar.cmpi .ne v57 c0_i32_30
  let v59 : BitVec 1 := Scalar.andi v56 v58
  let v45 : BitVec 32 := Scalar.divsi v44 c32_i32_25
  let c1_i32_31 : BitVec 32 := 1#32
  let v60 : BitVec 32 := Scalar.subi v45 c1_i32_31
  let v61 : BitVec 32 := Scalar.select v59 v60 v45
  let c32_i32_44 : BitVec 32 := 32#32
  let v74 : BitVec 32 := Scalar.subi c32_i32_44 v61
  let c1_i32_45 : BitVec 32 := 1#32
  let v76 : BitVec 32 := Scalar.divsi v74 c1_i32_45
  let v77 : BitVec 32 := Scalar.muli v76 c1_i32_45
  let v78 : BitVec 32 := Scalar.addi v61 v77
  let c1_i32_47 : BitVec 32 := 1#32
  let arg9 : BitVec 32 := Scf.iv v78 c1_i32_47 k0_t8
  let c32_i32_48 : BitVec 32 := 32#32
  let v79 : BitVec 32 := Scalar.muli arg9 c32_i32_48
  let v80 : BitVec 32 := Scalar.addi v2 v79
  let c0_i32_49_r8 : BitVec 32 := 0#32
  ![v80.toNat, 0]

def k0_chk1 (i : grid0.Coords) (v25 : BitVec 32) : Prop :=
  ((k0_t3_loop i v25).OK) ∧
  (∀ k0_t3 : Fin (k0_t3_loop i v25).trips, ∀ a, (k0_off3 i v25 k0_t3) a + S32x1024.size a ≤ S32768x1024.size a) ∧
  ((k0_t4_loop i v25).OK) ∧
  (∀ k0_t4 : Fin (k0_t4_loop i v25).trips, ∀ a, (k0_off4 i v25 k0_t4) a + S32x1024.size a ≤ S32768x1024.size a) ∧
  ((k0_t5_loop i v25).OK) ∧
  (∀ k0_t5 : Fin (k0_t5_loop i v25).trips, ∀ a, (k0_off5 i v25 k0_t5) a + S1x1024.size a ≤ S32768x1024.size a) ∧
  ((k0_t6_loop i v25).OK) ∧
  (∀ k0_t6 : Fin (k0_t6_loop i v25).trips, ∀ a, (k0_off6 i v25 k0_t6) a + S1x1024.size a ≤ S32768x1024.size a) ∧
  ((k0_t7_loop i v25).OK) ∧
  (∀ k0_t7 : Fin (k0_t7_loop i v25).trips, ∀ a, (k0_off7 i v25 k0_t7) a + S32x1024.size a ≤ S32768x1024.size a) ∧
  ((k0_t8_loop i v25).OK) ∧
  (∀ k0_t8 : Fin (k0_t8_loop i v25).trips, ∀ a, (k0_off8 i v25 k0_t8) a + S32x1024.size a ≤ S32768x1024.size a)
theorem k0_t3_ok : ∀ (i : grid0.Coords) (v25 : BitVec 32) (k0_hw1 : k0_chk1 i v25), (k0_t3_loop i v25).OK := fun i v25 k0_hw1 => k0_hw1.1
theorem k0_off3_inb : ∀ (i : grid0.Coords) (v25 : BitVec 32) (k0_hw1 : k0_chk1 i v25) (k0_t3 : Fin (k0_t3_loop i v25).trips), ∀ a, (k0_off3 i v25 k0_t3) a + S32x1024.size a ≤ S32768x1024.size a := fun i v25 k0_hw1 k0_t3 => k0_hw1.2.1 k0_t3
theorem k0_t4_ok : ∀ (i : grid0.Coords) (v25 : BitVec 32) (k0_hw1 : k0_chk1 i v25), (k0_t4_loop i v25).OK := fun i v25 k0_hw1 => k0_hw1.2.2.1
theorem k0_off4_inb : ∀ (i : grid0.Coords) (v25 : BitVec 32) (k0_hw1 : k0_chk1 i v25) (k0_t4 : Fin (k0_t4_loop i v25).trips), ∀ a, (k0_off4 i v25 k0_t4) a + S32x1024.size a ≤ S32768x1024.size a := fun i v25 k0_hw1 k0_t4 => k0_hw1.2.2.2.1 k0_t4
theorem k0_t5_ok : ∀ (i : grid0.Coords) (v25 : BitVec 32) (k0_hw1 : k0_chk1 i v25), (k0_t5_loop i v25).OK := fun i v25 k0_hw1 => k0_hw1.2.2.2.2.1
theorem k0_off5_inb : ∀ (i : grid0.Coords) (v25 : BitVec 32) (k0_hw1 : k0_chk1 i v25) (k0_t5 : Fin (k0_t5_loop i v25).trips), ∀ a, (k0_off5 i v25 k0_t5) a + S1x1024.size a ≤ S32768x1024.size a := fun i v25 k0_hw1 k0_t5 => k0_hw1.2.2.2.2.2.1 k0_t5
theorem k0_t6_ok : ∀ (i : grid0.Coords) (v25 : BitVec 32) (k0_hw1 : k0_chk1 i v25), (k0_t6_loop i v25).OK := fun i v25 k0_hw1 => k0_hw1.2.2.2.2.2.2.1
theorem k0_off6_inb : ∀ (i : grid0.Coords) (v25 : BitVec 32) (k0_hw1 : k0_chk1 i v25) (k0_t6 : Fin (k0_t6_loop i v25).trips), ∀ a, (k0_off6 i v25 k0_t6) a + S1x1024.size a ≤ S32768x1024.size a := fun i v25 k0_hw1 k0_t6 => k0_hw1.2.2.2.2.2.2.2.1 k0_t6
theorem k0_t7_ok : ∀ (i : grid0.Coords) (v25 : BitVec 32) (k0_hw1 : k0_chk1 i v25), (k0_t7_loop i v25).OK := fun i v25 k0_hw1 => k0_hw1.2.2.2.2.2.2.2.2.1
theorem k0_off7_inb : ∀ (i : grid0.Coords) (v25 : BitVec 32) (k0_hw1 : k0_chk1 i v25) (k0_t7 : Fin (k0_t7_loop i v25).trips), ∀ a, (k0_off7 i v25 k0_t7) a + S32x1024.size a ≤ S32768x1024.size a := fun i v25 k0_hw1 k0_t7 => k0_hw1.2.2.2.2.2.2.2.2.2.1 k0_t7
theorem k0_t8_ok : ∀ (i : grid0.Coords) (v25 : BitVec 32) (k0_hw1 : k0_chk1 i v25), (k0_t8_loop i v25).OK := fun i v25 k0_hw1 => k0_hw1.2.2.2.2.2.2.2.2.2.2.1
theorem k0_off8_inb : ∀ (i : grid0.Coords) (v25 : BitVec 32) (k0_hw1 : k0_chk1 i v25) (k0_t8 : Fin (k0_t8_loop i v25).trips), ∀ a, (k0_off8 i v25 k0_t8) a + S32x1024.size a ≤ S32768x1024.size a := fun i v25 k0_hw1 k0_t8 => k0_hw1.2.2.2.2.2.2.2.2.2.2.2 k0_t8

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16x2048x1024 : Shape := ⟨3, ![16, 2048, 1024]⟩
abbrev S16 : Shape := ⟨1, ![16]⟩
abbrev S2048 : Shape := ⟨1, ![2048]⟩
abbrev S_ : Shape := ⟨0, ![]⟩
abbrev S1x2048 : Shape := ⟨2, ![1, 2048]⟩
abbrev S16x1 : Shape := ⟨2, ![16, 1]⟩
abbrev S16x2048 : Shape := ⟨2, ![16, 2048]⟩
abbrev S16x2048x1 : Shape := ⟨3, ![16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S1x2048, .i32⟩
  | .hbm, ⟨10, _⟩ => ⟨S16x1, .i32⟩
  | .hbm, ⟨11, _⟩ => ⟨S16x2048, .i32⟩
  | .hbm, ⟨12, _⟩ => ⟨S16x2048, .i32⟩
  | .hbm, ⟨13, _⟩ => ⟨S16x2048, .i1⟩
  | .hbm, ⟨14, _⟩ => ⟨S16x2048x1, .i1⟩
  | .hbm, ⟨15, _⟩ => ⟨S_, .f32⟩
  | .hbm, ⟨16, _⟩ => ⟨S16x2048x1024, .i1⟩
  | .hbm, ⟨17, _⟩ => ⟨S16x2048x1024, .f32⟩
  | .hbm, ⟨18, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Words.lean ====
/-
  The words that one tile computes, read as integers. A tile at SparseCore `c` and subcore `s` has the number
  `2 s + c`; it owns the 1024 rows from row `1024 (2 s + c)` on, all of them of batch `s`, half `c`. Of its length
  word `v` it keeps `n = clip (v - 1024 c, 0, 1024)`, the number of its rows that are copied, and `q = ⌈n / 32⌉`, the
  number of its 32-row chunks that are copied. Every loop bound and every offset of the kernel is a closed form in
  `c`, `s`, `n`, `q` and the trip.
-/
module

public import proofs.«01_k».proof.Proof.Gen.KernelIdeal
public import Idealize.ShloMosaic.Lib.Affine

@[expose] public section

noncomputable section

namespace Cert.PadMask

open Idealize.ShloMosaic Idealize.SL.Sem Cert.KernelIdeal
open Idealize.ShloMosaic.Affine (IsInt)

/-- The tile's SparseCore and its subcore. -/
abbrev cOf (i : grid0.Coords) : Nat := (i 0).val
/-- The subcore coordinate of a tile, as a number. -/
abbrev sOf (i : grid0.Coords) : Nat := (i 1).val

/-- A tile's core coordinate is below 2. -/
theorem cOf_lt (i : grid0.Coords) : cOf i < 2 := (i 0).isLt
/-- A tile's subcore coordinate is below 16. -/
theorem sOf_lt (i : grid0.Coords) : sOf i < 16 := (i 1).isLt

/-- The tile's number, as a word. -/
def wW (i : grid0.Coords) : BitVec 32 :=
  Scalar.addi (Scalar.muli (BitVec.ofNat 32 (i 1).val) 2#32) (BitVec.ofNat 32 (i 0).val)

/-- The remainder of `w` by 2, with the sign corrected as jnp's `%` does. -/
def remW (w : BitVec 32) : BitVec 32 :=
  let m := Scalar.select (Scalar.cmpi .eq 2#32 0#32) 1#32 2#32
  let r := Scalar.remsi w m
  Scalar.select
    (Scalar.andi (Scalar.xori (Scalar.cmpi .slt r 0#32) (Scalar.cmpi .slt m 0#32)) (Scalar.cmpi .ne r 0#32))
    (Scalar.addi r m) r

/-- The number of rows copied, from the half `h` and the length `v`. -/
def cntW (h v : BitVec 32) : BitVec 32 :=
  Scalar.minsi 1024#32 (Scalar.maxsi 0#32 (Scalar.subi v (Scalar.muli h 1024#32)))

/-- The floor of `a / d`, as jnp's `//` writes it. -/
def floorW (a d : BitVec 32) : BitVec 32 :=
  Scalar.select
    (Scalar.andi
      (Scalar.cmpi .ne
        (Scalar.subi (Scalar.extui (Scalar.cmpi .sgt a 0#32)) (Scalar.extui (Scalar.cmpi .slt a 0#32)))
        (Scalar.subi (Scalar.extui (Scalar.cmpi .sgt d 0#32)) (Scalar.extui (Scalar.cmpi .slt d 0#32))))
      (Scalar.cmpi .ne (Scalar.remsi a d) 0#32))
    (Scalar.subi (Scalar.divsi a d) 1#32) (Scalar.divsi a d)

/-- The number of chunks copied, from the number of rows copied. -/
def chW (n : BitVec 32) : BitVec 32 := floorW (Scalar.subi (Scalar.addi n 32#32) 1#32) 32#32

/-- How many of its rows the tile at `i` copies, when its length word is `v`. -/
def cnt (i : grid0.Coords) (v : BitVec 32) : Nat :=
  (min 1024 (max 0 (Scalar.subi v (BitVec.ofNat 32 (1024 * cOf i))).toInt)).toNat

/-- How many of its chunks hold a row that is copied. -/
def chs (i : grid0.Coords) (v : BitVec 32) : Nat := (cnt i v + 31) / 32

/-- The first of the tile's rows. -/
def base (i : grid0.Coords) : Nat := 1024 * (2 * sOf i + cOf i)

/-- A tile copies at most its 1024 rows. -/
theorem cnt_le (i : grid0.Coords) (v : BitVec 32) : cnt i v ≤ 1024 := by unfold cnt; omega
/-- A tile copies at most 32 chunks. -/
theorem chs_le (i : grid0.Coords) (v : BitVec 32) : chs i v ≤ 32 := by
  have := cnt_le i v; unfold chs; omega
/-- The rows to copy fit in the chunks copied. -/
theorem cnt_le_chs (i : grid0.Coords) (v : BitVec 32) : cnt i v ≤ 32 * chs i v := by unfold chs; omega
/-- A tile's first row is at most 31744, so that its 1024 rows lie in the array. -/
theorem base_le (i : grid0.Coords) : base i ≤ 31744 := by
  have := cOf_lt i; have := sOf_lt i; unfold base; omega

/-- When the subtraction does not leave the 32-bit integers, the count is the plain clipped difference. -/
theorem cnt_eq (i : grid0.Coords) (v : BitVec 32) (hv : -2147482624 ≤ v.toInt) :
    (cnt i v : Int) = min 1024 (max 0 (v.toInt - 1024 * cOf i)) := by
  have hc := cOf_lt i
  have hr := Affine.word_range v
  have h := Affine.subi (Affine.word v) (Affine.ofNat (1024 * cOf i) ⟨rfl, by omega⟩) (e := v.toInt - 1024 * cOf i)
    ⟨by push_cast; omega, by omega, by omega⟩
  have h' := Affine.unique h (Affine.word _)
  unfold cnt
  rw [← h']
  omega

section Words
variable (i : grid0.Coords) (v : BitVec 32)

/-- The word the kernel computes for the tile's number denotes `2 * subcore + core`. -/
theorem isInt_w : IsInt (wW i) (2 * sOf i + cOf i) := by
  have := cOf_lt i; have := sOf_lt i
  exact Affine.addi (Affine.muli (Affine.ofNat (sOf i) ⟨rfl, by omega⟩) (Affine.ofNat 2 ⟨rfl, by decide⟩)
    (e := 2 * sOf i) ⟨by push_cast; omega, by omega, by omega⟩) (Affine.ofNat (cOf i) ⟨rfl, by omega⟩)
    ⟨rfl, by omega, by omega⟩

/-- The remainder by 2 of a nonnegative word. -/
theorem isInt_rem {w : BitVec 32} {e : Int} (hw : IsInt w e) (h : 0 ≤ e) : IsInt (remW w) (e % 2) := by
  have h2 : IsInt (Scalar.select (Scalar.cmpi .eq 2#32 0#32) 1#32 2#32) 2 := by
    refine Affine.select_fails (Affine.eq_fails (Affine.ofNat 2 ⟨rfl, by decide⟩) (Affine.ofNat 0 ⟨rfl, by decide⟩)
      (by decide)) (Affine.ofNat 1 ⟨rfl, by decide⟩) (Affine.ofNat 2 ⟨rfl, by decide⟩) rfl
  have hr := Affine.remsi hw h2 (e := e % 2) ⟨rfl, h, by decide⟩
  have h0 : IsInt 0#32 0 := Affine.ofNat 0 ⟨rfl, by decide⟩
  refine Affine.select_fails (Affine.andi_fails_left (Affine.xori_ff (Affine.slt_fails hr h0 (by omega))
    (Affine.slt_fails h2 h0 (by decide))) trivial) (ea := e % 2 + 2) ?_ hr rfl
  exact Affine.addi hr h2 ⟨rfl, by omega, by omega⟩

/-- The tile's half: its number's remainder by 2 is its SparseCore. -/
theorem isInt_half : IsInt (remW (wW i)) (cOf i) := by
  have := cOf_lt i
  exact Affine.relit (isInt_rem (isInt_w i) (by omega)) (by omega)

/-- The number of rows copied. -/
theorem isInt_cnt : IsInt (cntW (remW (wW i)) v) (cnt i v) := by
  have hc := cOf_lt i
  have hm : IsInt (Scalar.muli (remW (wW i)) 1024#32) (1024 * cOf i : Int) :=
    Affine.muli (isInt_half i) (Affine.ofNat 1024 ⟨rfl, by decide⟩) ⟨by push_cast; omega, by omega, by omega⟩
  have he : Scalar.muli (remW (wW i)) 1024#32 = BitVec.ofNat 32 (1024 * cOf i) :=
    Affine.eq_of hm _ (by push_cast; rfl)
  unfold cntW cnt
  rw [he]
  refine Affine.minsi (Affine.ofNat 1024 ⟨rfl, by decide⟩)
    (Affine.maxsi (Affine.ofNat 0 ⟨rfl, by decide⟩) (Affine.word _) rfl) ?_
  push_cast
  omega

/-- The floor of a quotient of a positive word by a positive one. -/
theorem isInt_floor {a d : BitVec 32} {ea ed : Int} (ha : IsInt a ea) (hd : IsInt d ed) (h : 0 < ea) (h' : 0 < ed)
    (hq : ea < 2 ^ 31) : IsInt (floorW a d) (ea / ed) := by
  have h0 : IsInt 0#32 0 := Affine.ofNat 0 ⟨rfl, by decide⟩
  have sg : ∀ {x : BitVec 32} {e : Int}, IsInt x e → 0 < e →
      IsInt (Scalar.subi (Scalar.extui (Scalar.cmpi .sgt x 0#32)) (Scalar.extui (Scalar.cmpi .slt x 0#32))) 1 :=
    fun hx he => Affine.subi (Affine.extui_holds (Affine.sgt_holds hx h0 he) rfl)
      (Affine.extui_fails (Affine.slt_fails hx h0 (by omega)) rfl) ⟨by decide, by decide, by decide⟩
  have hdiv := Affine.divsi ha hd (e := ea / ed) ⟨rfl, by omega, h'⟩
  have hlo : 0 ≤ ea / ed := Int.ediv_nonneg (by omega) (by omega)
  have hhi : ea / ed ≤ ea := Int.ediv_le_self _ (by omega)
  exact Affine.select_fails (Affine.andi_fails_left (Affine.ne_fails (sg ha h) (sg hd h') rfl) trivial)
    (Affine.subi hdiv (Affine.ofNat 1 ⟨rfl, by decide⟩) (e := ea / ed - 1) ⟨by omega, by omega, by omega⟩) hdiv rfl

/-- The number of chunks copied. -/
theorem isInt_chs : IsInt (chW (cntW (remW (wW i)) v)) (chs i v) := by
  have hn := cnt_le i v
  have h32 : IsInt 32#32 32 := Affine.ofNat 32 ⟨rfl, by decide⟩
  have ha := Affine.addi (isInt_cnt i v) h32 (e := cnt i v + 32) ⟨rfl, by omega, by omega⟩
  have hs := Affine.subi ha (Affine.ofNat 1 ⟨rfl, by decide⟩) (e := cnt i v + 31) ⟨by push_cast; omega, by omega, by omega⟩
  refine Affine.relit (isInt_floor hs h32 (by omega) (by decide) (by omega)) ?_
  unfold chs; push_cast; rfl

/-- The tile's first row. -/
theorem isInt_base : IsInt (Scalar.muli (wW i) 1024#32) (base i) := by
  have := cOf_lt i; have := sOf_lt i
  refine Affine.muli (isInt_w i) (Affine.ofNat 1024 ⟨rfl, by decide⟩) ⟨?_, ?_, ?_⟩ <;> unfold base <;> push_cast <;> omega

/-! ### The loops' bounds -/

/-- From `lo` on, `(hi - lo) / 1 · 1` steps of 1: the bound that the first of a pair of loops runs to, and the bound
    that the second runs to, both `hi`. -/
theorem isInt_hi {a d : BitVec 32} {ea ed : Int} (ha : IsInt a ea) (hd : IsInt d ed) (h0 : 0 ≤ ed)
    (hl : 0 ≤ ea) (hs : ea + ed < 2 ^ 31) :
    IsInt (Scalar.addi a (Scalar.muli (Scalar.divsi d 1#32) 1#32)) (ea + ed) ∧ IsInt (Scalar.addi a d) (ea + ed) := by
  have h1 : IsInt 1#32 1 := Affine.ofNat 1 ⟨rfl, by decide⟩
  exact ⟨Affine.addi ha (Affine.muli (Affine.divsi_one hd h1 ⟨rfl, rfl⟩) h1 (e := ed) ⟨by omega, by omega, by omega⟩)
    ⟨rfl, by omega, by omega⟩, Affine.addi ha hd ⟨rfl, by omega, by omega⟩⟩

/-- The chunks' words: `q`, `q - 0`. -/
theorem isInt_q0 : IsInt (Scalar.subi (chW (cntW (remW (wW i)) v)) 0#32) (chs i v) := by
  have := chs_le i v
  exact Affine.subi (isInt_chs i v) (Affine.ofNat 0 ⟨rfl, by decide⟩) ⟨by omega, by omega, by omega⟩

/-- The rows from the count to the end of its chunk. -/
theorem isInt_gap : IsInt (Scalar.subi (Scalar.minsi (Scalar.muli (chW (cntW (remW (wW i)) v)) 32#32) 1024#32)
    (cntW (remW (wW i)) v)) (32 * chs i v - cnt i v : Int) := by
  have := chs_le i v; have := cnt_le_chs i v; have := cnt_le i v
  refine Affine.subi (Affine.minsi (Affine.muli (isInt_chs i v) (Affine.ofNat 32 ⟨rfl, by decide⟩)
    (e := 32 * chs i v) ⟨by push_cast; omega, by omega, by omega⟩) (Affine.ofNat 1024 ⟨rfl, by decide⟩)
    (e := 32 * chs i v) ?_) (isInt_cnt i v) ⟨rfl, by omega, by omega⟩
  push_cast; omega

/-- The chunks from `q` to the end. -/
theorem isInt_rest : IsInt (Scalar.subi 32#32 (chW (cntW (remW (wW i)) v))) (32 - chs i v : Int) := by
  have := chs_le i v
  exact Affine.subi (Affine.ofNat 32 ⟨rfl, by decide⟩) (isInt_chs i v) ⟨by push_cast; omega, by omega, by omega⟩

/-- The zero word denotes 0. -/
theorem isInt_zero : IsInt 0#32 0 := Affine.ofNat 0 ⟨rfl, by decide⟩
/-- The one word denotes 1. -/
theorem isInt_one : IsInt 1#32 1 := Affine.ofNat 1 ⟨rfl, by decide⟩

/-- The copying loop runs from 0 to the number of chunks to copy. -/
theorem t3_bounds : IsInt (k0_t3_loop i v).lb 0 ∧ IsInt (k0_t3_loop i v).ub (chs i v) ∧ IsInt (k0_t3_loop i v).st 1 := by
  have := chs_le i v
  refine ⟨isInt_zero, ?_, isInt_one⟩
  exact Affine.relit (isInt_hi isInt_zero (isInt_q0 i v) (by omega) (by omega) (by omega)).1 (by omega)

/-- The copying loop's remainder starts where the copying loop ended, at the same number. -/
theorem t4_bounds : IsInt (k0_t4_loop i v).lb (chs i v) ∧ IsInt (k0_t4_loop i v).ub (chs i v) ∧
    IsInt (k0_t4_loop i v).st 1 := by
  have := chs_le i v
  have h := isInt_hi isInt_zero (isInt_q0 i v) (by omega) (by omega) (by omega)
  exact ⟨Affine.relit h.1 (by omega), Affine.relit h.2 (by omega), isInt_one⟩

/-- The row-filling loop runs from the number of rows to copy to the end of the last copied chunk. -/
theorem t5_bounds : IsInt (k0_t5_loop i v).lb (cnt i v) ∧ IsInt (k0_t5_loop i v).ub (32 * chs i v : Int) ∧
    IsInt (k0_t5_loop i v).st 1 := by
  have := chs_le i v; have := cnt_le_chs i v
  refine ⟨isInt_cnt i v, ?_, isInt_one⟩
  exact Affine.relit (isInt_hi (isInt_cnt i v) (isInt_gap i v) (by omega) (by omega) (by omega)).1 (by omega)

/-- The row-filling loop's remainder starts and ends at the end of the last copied chunk. -/
theorem t6_bounds : IsInt (k0_t6_loop i v).lb (32 * chs i v : Int) ∧ IsInt (k0_t6_loop i v).ub (32 * chs i v : Int) ∧
    IsInt (k0_t6_loop i v).st 1 := by
  have := chs_le i v; have := cnt_le_chs i v
  have h := isInt_hi (isInt_cnt i v) (isInt_gap i v) (by omega) (by omega) (by omega)
  exact ⟨Affine.relit h.1 (by omega), Affine.relit h.2 (by omega), isInt_one⟩

/-- The chunk-filling loop runs from the number of copied chunks to 32. -/
theorem t7_bounds : IsInt (k0_t7_loop i v).lb (chs i v) ∧ IsInt (k0_t7_loop i v).ub 32 ∧ IsInt (k0_t7_loop i v).st 1 := by
  have := chs_le i v
  refine ⟨isInt_chs i v, ?_, isInt_one⟩
  exact Affine.relit (isInt_hi (isInt_chs i v) (isInt_rest i v) (by omega) (by omega) (by omega)).1 (by omega)

/-- The chunk-filling loop's remainder starts and ends at 32. -/
theorem t8_bounds : IsInt (k0_t8_loop i v).lb 32 ∧ IsInt (k0_t8_loop i v).ub 32 ∧ IsInt (k0_t8_loop i v).st 1 := by
  have := chs_le i v
  have h := isInt_hi (isInt_chs i v) (isInt_rest i v) (by omega) (by omega) (by omega)
  exact ⟨Affine.relit h.1 (by omega), Affine.relit h.2 (by omega), isInt_one⟩

/-- The trips of a loop from `lo` to `hi` in steps of 1. -/
theorem trips_of {L : Scf.Loop 32} {lo hi : Nat} (h : IsInt L.lb lo ∧ IsInt L.ub hi ∧ IsInt L.st 1) (hle : lo ≤ hi) :
    L.trips = hi - lo :=
  Affine.trips_eq h.1 h.2.1 h.2.2 _ ⟨by decide, by omega⟩

/-- Such a loop's operands are meaningful. -/
theorem ok_of {L : Scf.Loop 32} {lo hi : Nat} (h : IsInt L.lb lo ∧ IsInt L.ub hi ∧ IsInt L.st 1) (hle : lo ≤ hi)
    (hhi : hi < 2 ^ 31) : L.OK :=
  Affine.ok h.1 h.2.1 h.2.2 ⟨by decide, by omega⟩

/-- Its induction variable at trip `k`. -/
theorem iv_of {L : Scf.Loop 32} {lo hi : Nat} (h : IsInt L.lb lo ∧ IsInt L.ub hi ∧ IsInt L.st 1) (hle : lo ≤ hi)
    (hhi : hi < 2 ^ 31) (k : Fin L.trips) : IsInt (Scf.iv L.lb L.st k) (lo + k.val : Nat) := by
  have hk := lt_of_lt_of_eq k.isLt (trips_of h hle)
  exact Affine.iv h.1 h.2.2 _ ⟨by push_cast; omega, by omega, by omega⟩

/-- The copying loop runs once for each chunk to copy. -/
theorem t3_trips : (k0_t3_loop i v).trips = chs i v := trips_of (lo := 0) (hi := chs i v) (t3_bounds i v) (Nat.zero_le _)
/-- The copying loop's remainder does not run. -/
theorem t4_trips : (k0_t4_loop i v).trips = 0 := by
  rw [trips_of (lo := chs i v) (hi := chs i v) (t4_bounds i v) (Nat.le_refl _)]; omega
/-- The row-filling loop runs once for each row past the length in the last copied chunk. -/
theorem t5_trips : (k0_t5_loop i v).trips = 32 * chs i v - cnt i v :=
  trips_of (lo := cnt i v) (hi := 32 * chs i v) (by exact_mod_cast t5_bounds i v) (cnt_le_chs i v)
/-- The row-filling loop's remainder does not run. -/
theorem t6_trips : (k0_t6_loop i v).trips = 0 := by
  rw [trips_of (lo := 32 * chs i v) (hi := 32 * chs i v) (by exact_mod_cast t6_bounds i v) (Nat.le_refl _)]; omega
/-- The chunk-filling loop runs once for each chunk that is not copied. -/
theorem t7_trips : (k0_t7_loop i v).trips = 32 - chs i v :=
  trips_of (lo := chs i v) (hi := 32) (t7_bounds i v) (chs_le i v)
/-- The chunk-filling loop's remainder does not run. -/
theorem t8_trips : (k0_t8_loop i v).trips = 0 := by
  rw [trips_of (lo := 32) (hi := 32) (t8_bounds i v) (Nat.le_refl _)]

/-! ### The offsets -/

/-- The offset of a chunk of the tile: its first row. -/
theorem chunk_off {w : BitVec 32} {k : Nat} (hw : IsInt w k) (hk : k ≤ 32) :
    IsInt (Scalar.addi (Scalar.muli (wW i) 1024#32) (Scalar.muli w 32#32)) (base i + 32 * k : Nat) := by
  have := base_le i
  exact Affine.addi (isInt_base i) (Affine.muli hw (Affine.ofNat 32 ⟨rfl, by decide⟩) (e := 32 * k)
    ⟨by push_cast; omega, by omega, by omega⟩) ⟨by push_cast; rfl, by omega, by omega⟩

/-- The copied chunk at trip `k` is chunk `k`. -/
theorem off3_eq (k : Fin (k0_t3_loop i v).trips) : k0_off3 i v k = ![base i + 32 * k.val, 0] := by
  have hq := chs_le i v
  have hk := lt_of_lt_of_eq k.isLt (t3_trips i v)
  refine Affine.vec_cons (chunk_off i (iv_of (lo := 0) (hi := chs i v) (t3_bounds i v) (Nat.zero_le _) (by omega) k)
    (by omega)) ?_ rfl
  omega

/-- The single row filled at trip `k` is row `n + k` of the tile. -/
theorem off5_eq (k : Fin (k0_t5_loop i v).trips) : k0_off5 i v k = ![base i + (cnt i v + k.val), 0] := by
  have hq := chs_le i v
  have hb := base_le i
  have hk := lt_of_lt_of_eq k.isLt (t5_trips i v)
  refine Affine.vec_cons (Affine.addi (isInt_base i) (iv_of (lo := cnt i v) (hi := 32 * chs i v)
    (by exact_mod_cast t5_bounds i v) (cnt_le_chs i v) (by omega) k) (e := (base i + (cnt i v + k.val) : Nat))
    ⟨by push_cast; rfl, by omega, by omega⟩) rfl rfl

/-- The filled chunk at trip `k` is chunk `q + k`. -/
theorem off7_eq (k : Fin (k0_t7_loop i v).trips) : k0_off7 i v k = ![base i + 32 * (chs i v + k.val), 0] := by
  have hq := chs_le i v
  have hk := lt_of_lt_of_eq k.isLt (t7_trips i v)
  exact Affine.vec_cons (chunk_off i (iv_of (lo := chs i v) (hi := 32) (t7_bounds i v) hq (by omega) k)
    (by omega)) rfl rfl

/-- Rows inside the array. -/
theorem inb_rows {r o b : Nat} (h : o + r ≤ b) : ∀ a, (![o, 0] : Fin 2 → Nat) a + (![r, 1024] : Fin 2 → Nat) a
    ≤ (![b, 1024] : Fin 2 → Nat) a := by
  intro a
  match a with
  | 0 => exact h
  | 1 => exact Nat.le_refl _

/-- What the body assumes of its length word holds of every word. -/
theorem chk1 : k0_chk1 i v := by
  have hq := chs_le i v; have hn := cnt_le_chs i v; have hb := base_le i
  refine ⟨ok_of (lo := 0) (hi := chs i v) (t3_bounds i v) (Nat.zero_le _) (by omega), ?_,
    ok_of (lo := chs i v) (hi := chs i v) (t4_bounds i v) (Nat.le_refl _) (by omega),
    fun k => absurd (lt_of_lt_of_eq k.isLt (t4_trips i v)) (Nat.not_lt_zero _),
    ok_of (lo := cnt i v) (hi := 32 * chs i v) (by exact_mod_cast t5_bounds i v) hn (by omega), ?_,
    ok_of (lo := 32 * chs i v) (hi := 32 * chs i v) (by exact_mod_cast t6_bounds i v) (Nat.le_refl _) (by omega),
    fun k => absurd (lt_of_lt_of_eq k.isLt (t6_trips i v)) (Nat.not_lt_zero _),
    ok_of (lo := chs i v) (hi := 32) (t7_bounds i v) hq (by omega), ?_,
    ok_of (lo := 32) (hi := 32) (t8_bounds i v) (Nat.le_refl _) (by omega),
    fun k => absurd (lt_of_lt_of_eq k.isLt (t8_trips i v)) (Nat.not_lt_zero _)⟩
  · intro k
    have hk := lt_of_lt_of_eq k.isLt (t3_trips i v)
    rw [off3_eq]
    exact inb_rows (by omega)
  · intro k
    have hk := lt_of_lt_of_eq k.isLt (t5_trips i v)
    rw [off5_eq]
    exact inb_rows (by omega)
  · intro k
    have hk := lt_of_lt_of_eq k.isLt (t7_trips i v)
    rw [off7_eq]
    exact inb_rows (by omega)

end Words

end Cert.PadMask

end
-- ==== Proof.Spec.lean ====
/-
  What the kernel computes, row by row. Of the 32768 rows, row `r` belongs to batch `r / 2048` and to half
  `(r / 1024) % 2` of it. A tile copies the first `cntAt` of its half's 1024 rows and fills the others with one constant.
-/
module

public import proofs.«01_k».proof.Proof.Words
public import Idealize.ShloMosaic.Lib.ValueIdx

@[expose] public section

noncomputable section

namespace Cert.PadMask

open Idealize.ShloMosaic Idealize.SL.Sem Cert.KernelIdeal
open Idealize.ShloMosaic.ValueIdx (ix1 ix2 idx2_lt0 idx2_lt1)

variable {F : FTy → Type}

/-- The number of rows copied of half `c` of a batch of length `v`. -/
def cntAt (c : Nat) (v : BitVec 32) : Nat :=
  (min 1024 (max 0 (Scalar.subi v (BitVec.ofNat 32 (1024 * c))).toInt)).toNat

/-- The number of rows a tile copies depends on its coordinates only through its core. -/
theorem cnt_eq_cntAt (i : grid0.Coords) (v : BitVec 32) : cnt i v = cntAt (cOf i) v := rfl

/-- A tile's number: which 1024 rows are its own. -/
def wid (i : grid0.Coords) : Fin 32 := ⟨2 * sOf i + cOf i, by have := cOf_lt i; have := sOf_lt i; omega⟩

/-- The rows of tile `w`, all columns. -/
def rowsOf (w : Fin 32) : Finset S32768x1024.Idx := Finset.univ.filter fun j => (j 0).val / 1024 = w.val

/-- An index lies in the rows of tile `w` when its row, divided by 1024, is `w`. -/
theorem mem_rowsOf {w : Fin 32} {j : S32768x1024.Idx} : j ∈ rowsOf w ↔ (j 0).val / 1024 = w.val := by
  unfold rowsOf; simp only [Finset.mem_filter, Finset.mem_univ, true_and]

/-- Two different tiles have no index in common. -/
theorem rowsOf_disjoint : ∀ w ∈ (Finset.univ : Finset (Fin 32)), ∀ w' ∈ (Finset.univ : Finset (Fin 32)), w ≠ w' →
    Disjoint (rowsOf w) (rowsOf w') :=
  fun _ _ _ _ h => Finset.disjoint_left.mpr fun _ hj hj' =>
    h (Fin.ext ((mem_rowsOf.mp hj).symm.trans (mem_rowsOf.mp hj')))

/-- The thirty-two tiles' rows are the whole array. -/
theorem rowsOf_cover : (Finset.univ : Finset (Fin 32)).biUnion rowsOf = Finset.univ :=
  Finset.eq_univ_iff_forall.mpr fun j => Finset.mem_biUnion.mpr
    ⟨⟨(j 0).val / 1024, by have := idx2_lt0 j; omega⟩, Finset.mem_univ _, mem_rowsOf.mpr rfl⟩

section Float
variable [FloatOps F]

/-- The constant the masked rows are filled with. -/
def fillV : F .f32 := Scalar.ofBits .f32 0xC61C4000#32

/-- The length of the batch that row `j` belongs to. -/
def lenRow (lens : S16.Idx → BitVec 32) (j : S32768x1024.Idx) : BitVec 32 :=
  lens (ix1 ⟨(j 0).val / 2048, by have := idx2_lt0 j; omega⟩)

/-- The result, over the rows: copied below the count, filled from it on. -/
def outRows (lens : S16.Idx → BitVec 32) (x : S32768x1024.Idx → F .f32) : S32768x1024.Idx → F .f32 := fun j =>
  if (j 0).val % 1024 < cntAt ((j 0).val / 1024 % 2) (lenRow lens j) then x j else fillV

/-- After the copies and fills made so far: on tile `i`'s rows, the first `a` hold `x`, those from `a` to `b` the
    constant. -/
def Good (i : grid0.Coords) (x : S32768x1024.Idx → F .f32) (a b : Nat) (f : S32768x1024.Idx → F .f32) : Prop :=
  ∀ j ∈ rowsOf (wid i), ((j 0).val < base i + a → f j = x j) ∧
    (base i + a ≤ (j 0).val → (j 0).val < base i + b → f j = fillV)

/-- Fewer rows. -/
theorem Good.shrink {i : grid0.Coords} {x f : S32768x1024.Idx → F .f32} {a b : Nat} (h : Good i x a a f) (hb : b ≤ a) :
    Good i x b b f :=
  fun j hj => ⟨fun h1 => (h j hj).1 (by omega), fun _ _ => by omega⟩

/-- Nothing is claimed of no row. -/
theorem Good.zero (i : grid0.Coords) (x f : S32768x1024.Idx → F .f32) : Good i x 0 0 f :=
  fun j hj => ⟨fun h => by
    have := mem_rowsOf.mp hj
    unfold wid base at *
    simp only at this
    omega, fun _ _ => by omega⟩

/-- All of the tile's rows: what the kernel computes. -/
theorem Good.out {i : grid0.Coords} {lens : S16.Idx → BitVec 32} {x f : S32768x1024.Idx → F .f32}
    (h : Good i x (cnt i (lens (ix1 ⟨sOf i, sOf_lt i⟩))) 1024 f) : ∀ j ∈ rowsOf (wid i), f j = outRows lens x j := by
  intro j hj
  have hw := mem_rowsOf.mp hj
  have hc := cOf_lt i; have hs := sOf_lt i
  simp only [wid] at hw
  have h1 : (j 0).val / 2048 = sOf i := by omega
  have h2 : (j 0).val / 1024 % 2 = cOf i := by omega
  have h3 : (j 0).val = base i + (j 0).val % 1024 := by unfold base; omega
  have hl : lenRow lens j = lens (ix1 ⟨sOf i, sOf_lt i⟩) := by
    unfold lenRow
    exact congrArg lens (funext fun a => match a with | ⟨0, _⟩ => Fin.ext h1)
  unfold outRows
  rw [hl, h2, ← cnt_eq_cntAt]
  by_cases hlt : (j 0).val % 1024 < cnt i (lens (ix1 ⟨sOf i, sOf_lt i⟩))
  · rw [if_pos hlt]; exact (h j hj).1 (by omega)
  · rw [if_neg hlt]; exact (h j hj).2 (by omega) (by omega)

end Float

end Cert.PadMask

end
-- ==== Proof.Switch.lean ====
/-
  The kernel's switch. A tile looks up its length by a switch on its batch number `s`: sixteen branches, each reading one
  entry of the fetched lengths. The printed switch is a chain of fifteen nested conditionals on `s`, `s - 1`, …, each of
  which asks whether what is left is zero. Whatever branch is taken, the word it yields is entry `s` of the lengths: the
  first window of the body is the same window with that one word in the chain's place.
-/
module

public import proofs.«01_k».proof.Proof.Words
public import proofs.«01_k».proof.Proof.Gen.KernelIdeal.Skeleton
public import Idealize.ShloMosaic.Lib.ValueIdx

@[expose] public section

noncomputable section

namespace Cert.PadMask

open Idealize.ShloMosaic Idealize.SL.Sem Cert.KernelIdeal Cert.KernelIdeal.Gen
open Idealize.ShloMosaic.Affine (IsInt)
open Idealize.ShloMosaic.ValueIdx (ix1)

/-- The batch number as the kernel computes it, clamped to the switch's range. -/
def selW (i : grid0.Coords) : BitVec 32 := Scalar.minsi (Scalar.maxsi (floorW (wW i) 2#32) 0#32) 15#32

/-- A nonnegative word's half, rounded down. -/
theorem isInt_floor2 {a : BitVec 32} {ea : Int} (ha : IsInt a ea) (h : 0 ≤ ea) (hq : ea < 2 ^ 31) :
    IsInt (floorW a 2#32) (ea / 2) := by
  have h2 : IsInt 2#32 2 := Affine.ofNat 2 ⟨rfl, by decide⟩
  by_cases hz : ea = 0
  · have hdiv := Affine.divsi ha h2 (e := ea / 2) ⟨rfl, by omega, by decide⟩
    have hrem := Affine.remsi ha h2 (e := 0) ⟨by omega, h, by decide⟩
    exact Affine.select_fails (Affine.andi_fails_right trivial (Affine.ne_fails hrem isInt_zero rfl))
      (Affine.subi hdiv isInt_one (e := ea / 2 - 1) ⟨by omega, by omega, by omega⟩) hdiv rfl
  · exact isInt_floor ha h2 (by omega) (by decide) hq

/-- The word the switch selects by denotes the tile's subcore coordinate. -/
theorem isInt_sel (i : grid0.Coords) : IsInt (selW i) (sOf i) := by
  have hc := cOf_lt i; have hs := sOf_lt i
  have hf := isInt_floor2 (isInt_w i) (by omega) (by omega)
  refine Affine.minsi (Affine.maxsi hf isInt_zero (e := sOf i) (by omega)) (Affine.ofNat 15 ⟨rfl, by decide⟩) ?_
  push_cast; omega

variable {F : FTy → Type}

/-- Entry `s` of the lengths, `s` the tile's batch number. -/
def lenAt (x : Vec F S16 .i32) (i : grid0.Coords) : BitVec 32 := x (ix1 ⟨sOf i, sOf_lt i⟩)

section Prog
variable {E : Type → Type} {α β : Type}

/-- The same program, followed by two that agree. -/
theorem bind_same (p : Prog E α) {k k' : α → Prog E β} (h : ∀ a, k a = k' a) : p >>= k = p >>= k' := by
  rw [funext h]

/-- One conditional of the chain: with `e` left, the branch on "not zero" and the branch on "zero". -/
theorem sel_step {w : BitVec 32} {e : Int} {p : Scalar.cmpi .ne w 0#32 = 1#1 → Prog E α}
    {p' : ¬ Scalar.cmpi .ne w 0#32 = 1#1 → Prog E α} {r : Prog E α} (hw : IsInt w e) (h0 : 0 ≤ e)
    (hpos : ∀ h, IsInt (Scalar.subi w 1#32) (e - 1) → 0 < e → p h = r) (hzero : ∀ h, e = 0 → p' h = r) :
    (dite (Scalar.cmpi .ne w 0#32 = 1#1) p p') = r := by
  have hr := Affine.word_range w
  rw [← Affine.unique hw (Affine.word w)] at hr
  by_cases h : Scalar.cmpi .ne w 0#32 = 1#1
  · rw [dif_pos h]
    have : e ≠ 0 := fun he => Affine.ne_fails hw isInt_zero he h
    exact hpos h (Affine.subi hw isInt_one ⟨rfl, by omega, by omega⟩) (by omega)
  · rw [dif_neg h]
    exact hzero h (by by_contra he; exact h (Affine.ne_holds hw isInt_zero he))

end Prog

/-- The branch for entry `j` yields entry `s` when `s` is `j`. -/
theorem branch {x : Vec F S16 .i32} {i : grid0.Coords} {j : Nat} (hj : S16.Slices ![j] S1) (h : (sOf i : Int) - j = 0) :
    extractAt ![0] (extractStridedSlice S1 ![j] (shapeCast S16 x shapeCasts_S16_S16) hj) inpos_S1_p0 = lenAt x i := by
  unfold extractAt extractStridedSlice shapeCast lenAt
  rw [Shape.reshapeEquiv_self]
  refine congrArg x (funext fun a => Fin.ext ?_)
  match a with
  | 0 => show j + 0 = sOf i; omega

variable [FloatOps F]

set_option maxHeartbeats 1000000 in
/-- The first window of the body with the switch resolved: the lengths fetched and read, entry `s` taken. -/
theorem part1_eq (i : grid0.Coords) (arg2 : Memref sig .scVector .hbm S32768x1024 .f32) (harg2 : arg2.IsWhole)
    (arg3 : Memref sig .scVector .hbm S16 .i32) (harg3 : arg3.IsWhole) (arg4 : Memref sig .scVector .hbm S32768x1024 .f32)
    (harg4 : arg4.IsWhole) (arg5 : Memref sig .scVector .vmem S16 .i32) (harg5 : arg5.IsWhole)
    (arg6 : Memref sig .scVector .vmem S1x1024 .f32) (harg6 : arg6.IsWhole)
    (arg7 : Memref sig .scVector .vmem S32x1024 .f32) (harg7 : arg7.IsWhole)
    (arg8 : Memref sig .scVector .vmem S32x1024 .f32) (harg8 : arg8.IsWhole)
    (r0 r1 r2 r3 r4 r5 r6 r7 r8 : DmaSems sig S_) :
    k0_part1 (F := F) i arg2 harg2 arg3 harg3 arg4 harg4 arg5 harg5 arg6 harg6 arg7 harg7 arg8 harg8
        r0 r1 r2 r3 r4 r5 r6 r7 r8 = (do
      Prog.lift (.enqueueDma arg3 (.here arg5) (.dma r0.sem) harg3.wordExact harg5.wordExact ⟨Or.inl rfl, trivial⟩)
      Prog.lift (.waitDma2 r0.sem arg3 arg5 harg3.wordExact harg5.wordExact)
      let x : Vec F S16 .i32 ← Prog.lift (.load arg5 (Rect.unit (s := S16) ![0] S16.size inb_S16_S16_0).toLoadRect
        (View.loadsAt_vmem h_S16))
      have hw : k0_chk1 i (lenAt x i) :=
        (← Prog.lift (TpuEff.assume (k0_chk1 i (lenAt x i)) (k0_chk1.dec i (lenAt x i)))).down
      pure ⟨Scalar.muli (wW i) 1024#32, lenAt x i, hw, remW (wW i)⟩) := by
  have hs := sOf_lt i
  rw [k0_part1_eq_skeleton]
  unfold k0_part1_skel
  refine bind_same _ fun _ => bind_same _ fun _ => bind_same _ fun x => ?_
  let K : BitVec 32 → Prog (TpuEff nD τ sig (Elt F) Λ₀ (.scVector ((i 0).castLE hcore0) ((i 1).castLE hsub0)))
      (Σ' (_ : BitVec 32) (v25 : BitVec 32) (_ : k0_chk1 i v25), BitVec 32) := fun v => do
    have hw : k0_chk1 i v := (← Prog.lift (TpuEff.assume (k0_chk1 i v) (k0_chk1.dec i v))).down
    pure ⟨Scalar.muli (wW i) 1024#32, v, hw, remW (wW i)⟩
  refine sel_step (isInt_sel i) (by omega) (fun _ h0 p0 => ?_) (fun _ h => congrArg K (branch (j := 0) slices_S16_o0_S1 (by omega)))
  refine sel_step h0 (by omega) (fun _ h1 p1 => ?_) (fun _ h => congrArg K (branch (j := 1) slices_S16_o1_S1 (by omega)))
  refine sel_step h1 (by omega) (fun _ h2 p2 => ?_) (fun _ h => congrArg K (branch (j := 2) slices_S16_o2_S1 (by omega)))
  refine sel_step h2 (by omega) (fun _ h3 p3 => ?_) (fun _ h => congrArg K (branch (j := 3) slices_S16_o3_S1 (by omega)))
  refine sel_step h3 (by omega) (fun _ h4 p4 => ?_) (fun _ h => congrArg K (branch (j := 4) slices_S16_o4_S1 (by omega)))
  refine sel_step h4 (by omega) (fun _ h5 p5 => ?_) (fun _ h => congrArg K (branch (j := 5) slices_S16_o5_S1 (by omega)))
  refine sel_step h5 (by omega) (fun _ h6 p6 => ?_) (fun _ h => congrArg K (branch (j := 6) slices_S16_o6_S1 (by omega)))
  refine sel_step h6 (by omega) (fun _ h7 p7 => ?_) (fun _ h => congrArg K (branch (j := 7) slices_S16_o7_S1 (by omega)))
  refine sel_step h7 (by omega) (fun _ h8 p8 => ?_) (fun _ h => congrArg K (branch (j := 8) slices_S16_o8_S1 (by omega)))
  refine sel_step h8 (by omega) (fun _ h9 p9 => ?_) (fun _ h => congrArg K (branch (j := 9) slices_S16_o9_S1 (by omega)))
  refine sel_step h9 (by omega) (fun _ h10 p10 => ?_) (fun _ h => congrArg K (branch (j := 10) slices_S16_o10_S1 (by omega)))
  refine sel_step h10 (by omega) (fun _ h11 p11 => ?_) (fun _ h => congrArg K (branch (j := 11) slices_S16_o11_S1 (by omega)))
  refine sel_step h11 (by omega) (fun _ h12 p12 => ?_) (fun _ h => congrArg K (branch (j := 12) slices_S16_o12_S1 (by omega)))
  refine sel_step h12 (by omega) (fun _ h13 p13 => ?_) (fun _ h => congrArg K (branch (j := 13) slices_S16_o13_S1 (by omega)))
  refine sel_step h13 (by omega) (fun _ h14 p14 => congrArg K (branch (j := 15) slices_S16_o15_S1 (by omega))) (fun _ h => congrArg K (branch (j := 14) slices_S16_o14_S1 (by omega)))

end Cert.PadMask

end
-- ==== Proof.Setup.lean ====
/-
  The launch as the proof sees it: the two SparseCores' thirty-two tiles, what each is handed (its rows of the operand
  and of the result, a share of the lengths) and what it hands back, and the tile's own scratch arrays and counters.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Spec
public import proofs.«01_k».proof.Proof.Switch

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The launch's labels. -/
abbrev ΛP : Labels := Pipeline.Sig Λ₀ (Fin 0) fun p => (pcfgs (F := F) p).Adm
/-- The launch: one call. -/
abbrev K : SparseCore.Cfg τ sig (ΛP (F := F)) 1 := sc (F := F)
/-- The call's tiles on each of its cores. -/
theorem nSub_zero : (K (F := F)).nSub 0 = 16 := rfl
/-- The call's cores. -/
theorem nCore_zero : (K (F := F)).nCore 0 = 2 := rfl
/-- The launch's bodies. -/
abbrev D [FloatOps F] : Defs nD τ sig (Elt F) (ΛP (F := F)) := Pipeline.defs pcfgs defs₀
/-- No variant is needed: all loops are counted. -/
abbrev 𝒱₀ : Variants := Variants.none
/-- The same, for the launch. -/
abbrev 𝒱 : Variants := 𝒱₀.lift
/-- The launch's variant. -/
abbrev v₀ : 𝒱.V := Sum.inl none

/-- The launch's own flags are none of the kernel's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The proof's own state: the launch's rounds, the copies' counters -/

/-- The launch's rounds. -/
abbrev UH : Type := URounds (GSem nD τ sig) ℕ
/-- With the copies' counters. -/
abbrev UU : Type := UH × Counters

local notation "𝕄" => MT nD τ sig (HIx 1) (Elt F) ℕ UU ℕ

/-- Where the launch's rounds are kept. -/
abbrev EH : Emb UH (MT nD τ sig (HIx 1) (Elt F) ℕ UU ℕ) := embL

/-! ## The arrays -/

/-- The operand, the lengths, the operand's rows, the result's rows, the result. -/
abbrev aLoc (d : Dev nD) : Loc nD τ sig := (SparseCore.T d).loc main_arg0
/-- The lengths. -/
abbrev lLoc (d : Dev nD) : Loc nD τ sig := (SparseCore.T d).loc main_arg1
/-- The operand's rows. -/
abbrev xLoc (d : Dev nD) : Loc nD τ sig := (SparseCore.T d).loc main_v0
/-- The result's rows. -/
abbrev oLoc (d : Dev nD) : Loc nD τ sig := (SparseCore.T d).loc main_v1
/-- The result. -/
abbrev rLoc (d : Dev nD) : Loc nD τ sig := (SparseCore.T d).loc main_v2

/-- The operand's rows, whole, as a tile sees them. -/
abbrev xV : Memref sig Kind.scVector Space.hbm S32768x1024 EltTy.f32 := Memref.whole main_v0_scv
/-- The lengths. -/
abbrev lV : Memref sig Kind.scVector Space.hbm S16 EltTy.i32 := Memref.whole main_arg1_scv
/-- The result's rows. -/
abbrev oV : Memref sig Kind.scVector Space.hbm S32768x1024 EltTy.f32 := Memref.whole main_v1_scv
/-- The tile's scratch array of lengths. -/
abbrev sL : Memref sig Kind.scVector Space.vmem S16 EltTy.i32 := Memref.whole cc0_scratch0
/-- Its row of the constant. -/
abbrev sR : Memref sig Kind.scVector Space.vmem S1x1024 EltTy.f32 := Memref.whole cc0_scratch1
/-- Its chunk of the constant. -/
abbrev sF : Memref sig Kind.scVector Space.vmem S32x1024 EltTy.f32 := Memref.whole cc0_scratch2
/-- Its chunk in transit. -/
abbrev sC : Memref sig Kind.scVector Space.vmem S32x1024 EltTy.f32 := Memref.whole cc0_scratch3

/-! ## Writing through a rectangle of a whole array -/

/-- Inside the rectangle: the value written there. -/
theorem slice_write_mem {b : Ref sig .scVector} (r : Rect b.ty.shape) (f : b.ty.Contents (Elt F)) (w : r.shape.Idx → Elt F b.ty.elt)
    {j : b.ty.Idx} (h : j ∈ r.set) : ∃ x, r.emb x = j ∧ ((View.whole b).slice r).write (Elt F) f w Finset.univ j = w x := by
  obtain ⟨x, -, rfl⟩ := Finset.mem_map.mp (show j ∈ Finset.univ.map r.emb by rw [Rect.map_emb_univ]; exact h)
  exact ⟨x, rfl, View.write_emb_of_mem (v := (View.whole b).slice r) f w (Finset.mem_univ x)⟩

/-- Outside it: what was there. -/
theorem slice_write_off {b : Ref sig .scVector} (r : Rect b.ty.shape) (f : b.ty.Contents (Elt F)) (w : r.shape.Idx → Elt F b.ty.elt)
    {j : b.ty.Idx} (h : j ∉ r.set) : ((View.whole b).slice r).write (Elt F) f w Finset.univ j = f j :=
  View.write_of_not_mem (v := (View.whole b).slice r) f w Finset.univ (by
    rw [View.setOn_univ, View.set_slice_whole]; exact h)

/-! ## What a tile is handed -/

/-- The tile's place, from its core and number. -/
def coordsV (c : Fin (grid0.bound 0)) (s : Fin (grid0.bound 1)) : grid0.Coords :=
  fun | 0 => c | 1 => s | ⟨_ + 2, h⟩ => absurd h (Nat.not_lt.2 (Nat.le_add_left _ _))

/-- A tile's core, among the device's. -/
abbrev cV (L : grid0.Coords) : Fin τ.nSC := (L 0).castLE hcore0
/-- A tile's number, among its core's. -/
abbrev jV (L : grid0.Coords) : Fin τ.nSub := (L 1).castLE hsub0

/-- The tile's rows of the operand. -/
abbrev xRows (d : Dev nD) (w : Fin 32) (x : Buf (Elt F) (xLoc d)) : sProp 𝕄 := xLoc d ↦[rowsOf w]{fullShare} x
/-- Its share of the lengths. -/
abbrev lShare (d : Dev nD) (w : Fin 32) (l : Buf (Elt F) (lLoc d)) : sProp 𝕄 := lLoc d ↦{leaf 5 fullShare w} l
/-- Its rows of the result. -/
abbrev oRows (d : Dev nD) (w : Fin 32) (f : Buf (Elt F) (oLoc d)) : sProp 𝕄 := oLoc d ↦[rowsOf w]{fullShare} f

/-- What tile `w` is handed, and hands back: its rows of `x`, its share of the lengths, its rows of the result. -/
abbrev piece (d : Dev nD) (w : Fin 32) (x : Buf (Elt F) (xLoc d)) (l : Buf (Elt F) (lLoc d)) (f : Buf (Elt F) (oLoc d)) :
    sProp 𝕄 :=
  iprop(xRows d w x ∗ lShare d w l ∗ oRows d w f)

/-! ## The tile's scratch arrays and counters -/

section Tile

variable (d : Dev nD) (L : grid0.Coords)

/-- The tile's thread. -/
abbrev thr : Thread nD τ := V d (cV L) (jV L)

/-- The lengths' copy's counter. -/
abbrev cell0 : GSem nD τ sig := (thr d L, .dma cc0_scoped0.sem)
/-- The counter of a chunk's copy in. -/
abbrev cell1 : GSem nD τ sig := (thr d L, .dma cc0_scoped1.sem)
/-- The counter of a chunk's copy out. -/
abbrev cell2 : GSem nD τ sig := (thr d L, .dma cc0_scoped2.sem)
/-- The counter of a row's fill. -/
abbrev cell5 : GSem nD τ sig := (thr d L, .dma cc0_scoped5.sem)
/-- The counter of a chunk's fill. -/
abbrev cell7 : GSem nD τ sig := (thr d L, .dma cc0_scoped7.sem)

/-- Counters of one thread differ when they are different semaphores. -/
theorem cell_ne {t : Thread nD τ} {a b : SemLoc sig} (h : a ≠ b) : ((t, a) : GSem nD τ sig) ≠ (t, b) :=
  fun e => h (congrArg Prod.snd e)

/-- A counter of the tile's kernel is one of the tile's own. -/
theorem mem_own {a : SemLoc sig} (h : a.isScoped .scVector = true) : ((thr d L, a) : GSem nD τ sig) ∈ ownCells (thr d L) :=
  mem_ownCells.mpr ⟨rfl, h⟩

/-- The tile's counters at zero: the five it uses, and the rest. -/
theorem ownSems0_V :
    (ownSems0 (thr d L) : sProp 𝕄)
      = iprop(semVal (cell0 d L) 0 ∗ semVal (cell1 d L) 0 ∗ semVal (cell2 d L) 0 ∗ semVal (cell5 d L) 0 ∗ semVal (cell7 d L) 0
          ∗ bigSep ((((((ownCells (thr d L)).erase (cell0 d L)).erase (cell1 d L)).erase (cell2 d L)).erase (cell5 d L)).erase (cell7 d L))
              fun g => semVal g 0) := by
  unfold SparseCore.Cfg.ownSems0
  rw [SparseCore.bigSep_erase' (mem_own d L (a := .dma cc0_scoped0.sem) (by decide)),
    SparseCore.bigSep_erase' (Finset.mem_erase.mpr ⟨cell_ne (by decide), mem_own d L (a := .dma cc0_scoped1.sem) (by decide)⟩),
    SparseCore.bigSep_erase' (Finset.mem_erase.mpr ⟨cell_ne (by decide), Finset.mem_erase.mpr ⟨cell_ne (by decide),
      mem_own d L (a := .dma cc0_scoped2.sem) (by decide)⟩⟩),
    SparseCore.bigSep_erase' (Finset.mem_erase.mpr ⟨cell_ne (by decide), Finset.mem_erase.mpr ⟨cell_ne (by decide),
      Finset.mem_erase.mpr ⟨cell_ne (by decide), mem_own d L (a := .dma cc0_scoped5.sem) (by decide)⟩⟩⟩),
    SparseCore.bigSep_erase' (Finset.mem_erase.mpr ⟨cell_ne (by decide), Finset.mem_erase.mpr ⟨cell_ne (by decide),
      Finset.mem_erase.mpr ⟨cell_ne (by decide), Finset.mem_erase.mpr ⟨cell_ne (by decide),
        mem_own d L (a := .dma cc0_scoped7.sem) (by decide)⟩⟩⟩⟩)]

/-- A scratch array of the tile, as an array of the device. -/
abbrev scr (b : Ref sig .scVector) : DevRef τ sig := (Proc.scVector (cV L) (jV L)).devRef b

/-- Two scratch arrays differ. -/
theorem scr_ne {a b : Ref sig .scVector} (h : a ≠ b) : scr L a ≠ scr L b := fun e => h (Proc.devRef_injective _ e)

/-- The tile's own arrays: the four scratch arrays, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (scr L cc0_scratch0)).erase (scr L cc0_scratch1)).erase
              (scr L cc0_scratch2)).erase (scr L cc0_scratch3)) fun b => iprop(∃ f, ((d, b) : Loc nD τ sig) ↦{fullShare} f)) := by
  unfold SparseCore.Cfg.ownBufs
  have own (b : Ref sig .scVector) (h : (scr L b).owner = _) := SparseCore.Cfg.mem_ownRefs_of_owner (p := Proc.scVector (cV L) (jV L)) (b := scr L b) h
  refine (SparseCore.bigSep_erase' (own cc0_scratch0 rfl)).trans ?_
  rw [SparseCore.bigSep_erase' (Finset.mem_erase.mpr ⟨scr_ne L (by decide), own cc0_scratch1 rfl⟩),
    SparseCore.bigSep_erase' (Finset.mem_erase.mpr ⟨scr_ne L (by decide), Finset.mem_erase.mpr ⟨scr_ne L (by decide), own cc0_scratch2 rfl⟩⟩),
    SparseCore.bigSep_erase' (Finset.mem_erase.mpr ⟨scr_ne L (by decide), Finset.mem_erase.mpr ⟨scr_ne L (by decide),
      Finset.mem_erase.mpr ⟨scr_ne L (by decide), own cc0_scratch3 rfl⟩⟩⟩)]

end Tile

end Cert.PadMask

end
-- ==== Proof.Fills.lean ====
/-
  The two scratch arrays a tile fills with the constant: one row of 1024 and one chunk of 32 rows, sixteen lanes at a
  time.
-/
module

public import proofs.«01_k».proof.Proof.Setup

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (idx2_lt0 idx2_lt1)

variable {F : FTy → Type}

local notation "𝕄" => MT nD τ sig (HIx 1) (Elt F) ℕ UU ℕ

variable [FloatOps F]

/-- The chunk's store `k` is at row `k / 64`, lanes from `16 (k % 64)`. -/
theorem off2_eq : ∀ k : Fin k0_t2_loop.trips, k0_off2 k = ![k.val / 64, 16 * (k.val % 64)] := by decide +kernel

/-- The row's loop runs 64 times. -/
theorem t1_trips : k0_t1_loop.trips = 64 := by decide

/-- The chunk's loop runs 2048 times. -/
theorem t2_trips : k0_t2_loop.trips = 2048 := by decide

/-- The constant at every lane. -/
theorem pay19_eq (j : S1x16.Idx) : k0_pay19 (F := F) j = fillV := rfl

/-- The constant at every lane. -/
theorem pay20_eq (j : S1x16.Idx) : k0_pay20 (F := F) j = fillV := rfl

variable (d : Dev nD) (L : grid0.Coords)

/-- The row's scratch array, its first `16 k` lanes at the constant. -/
def rowInv (k : Nat) : sProp 𝕄 :=
  iprop(∃ f : Buf (Elt F) ((sR).view.loc (thr d L)), ⌜∀ j : S1x1024.Idx, (j 1).val < 16 * k → f j = fillV⌝ ∗ (sR).view.loc (thr d L) ↦{fullShare} f)

/-- The chunk's scratch array, its first `16 k` elements in row order at the constant. -/
def chunkInv (k : Nat) : sProp 𝕄 :=
  iprop(∃ f : Buf (Elt F) ((sF).view.loc (thr d L)),
    ⌜∀ j : S32x1024.Idx, 64 * (j 0).val + (j 1).val / 16 < k → f j = fillV⌝ ∗ (sF).view.loc (thr d L) ↦{fullShare} f)

/-- One trip of the row's loop. -/
theorem row_step (v25 v35 : BitVec 32) (k : Fin k0_t1_loop.trips) (u : Unit) :
    rowInv d L k.val ⊢ wp frame (wpE (defs₀ (F := F)) 𝒱₀ (thr d L) none) Set.univ
        (k0_t1_body L xV (Memref.isWhole_whole _) lV (Memref.isWhole_whole _) oV (Memref.isWhole_whole _)
          sL (Memref.isWhole_whole _) sR (Memref.isWhole_whole _) sF (Memref.isWhole_whole _) sC (Memref.isWhole_whole _)
          cc0_scoped0 cc0_scoped1 cc0_scoped2 cc0_scoped3 cc0_scoped4 cc0_scoped5 cc0_scoped6 cc0_scoped7 cc0_scoped8 v25 v35 k u)
        fun _ => (rowInv d L (k.val + 1) : sProp 𝕄) := by
  unfold k0_t1_body rowInv
  iintro ⟨%f, %hf, H⟩
  sl_exec
  sl_step
  iexists _
  isplitr
  swap; · iexact H
  ipureintro
  intro j hj
  by_cases hr : j ∈ (Rect.unit (s := S1x1024) (k0_off1 k) S1x16.size (k0_off1_inb k)).set
  · obtain ⟨x, -, hx⟩ := slice_write_mem (F := F) (b := cc0_scratch1) _ f k0_pay19 hr
    exact hx.trans (pay19_eq x)
  · refine (slice_write_off (F := F) (b := cc0_scratch1) _ f k0_pay19 hr).trans (hf j ?_)
    by_contra hlt
    refine hr (Rect.mem_set_unit.mpr fun a => ?_)
    have h0 : (j 0).val < 1 := idx2_lt0 j
    rw [k0_off1_eq]
    match a with
    | 0 => exact ⟨Nat.zero_le _, h0⟩
    | 1 => exact ⟨show 16 * k.val ≤ (j 1).val by omega, show (j 1).val < 16 * k.val + 16 by omega⟩

/-- One trip of the chunk's loop. -/
theorem chunk_step (v25 v35 : BitVec 32) (k : Fin k0_t2_loop.trips) (u : Unit) :
    chunkInv d L k.val ⊢ wp frame (wpE (defs₀ (F := F)) 𝒱₀ (thr d L) none) Set.univ
        (k0_t2_body L xV (Memref.isWhole_whole _) lV (Memref.isWhole_whole _) oV (Memref.isWhole_whole _)
          sL (Memref.isWhole_whole _) sR (Memref.isWhole_whole _) sF (Memref.isWhole_whole _) sC (Memref.isWhole_whole _)
          cc0_scoped0 cc0_scoped1 cc0_scoped2 cc0_scoped3 cc0_scoped4 cc0_scoped5 cc0_scoped6 cc0_scoped7 cc0_scoped8 v25 v35 k u)
        fun _ => (chunkInv d L (k.val + 1) : sProp 𝕄) := by
  unfold k0_t2_body chunkInv
  iintro ⟨%f, %hf, H⟩
  sl_exec
  sl_step
  iexists _
  isplitr
  swap; · iexact H
  ipureintro
  intro j hj
  by_cases hr : j ∈ (Rect.unit (s := S32x1024) (k0_off2 k) S1x16.size (k0_off2_inb k)).set
  · obtain ⟨x, -, hx⟩ := slice_write_mem (F := F) (b := cc0_scratch2) _ f k0_pay20 hr
    exact hx.trans (pay20_eq x)
  · refine (slice_write_off (F := F) (b := cc0_scratch2) _ f k0_pay20 hr).trans (hf j ?_)
    by_contra hlt
    refine hr (Rect.mem_set_unit.mpr fun a => ?_)
    have h1 : (j 1).val < 1024 := idx2_lt1 j
    rw [off2_eq]
    match a with
    | 0 => exact ⟨show k.val / 64 ≤ (j 0).val by omega, show (j 0).val < k.val / 64 + 1 by omega⟩
    | 1 => exact ⟨show 16 * (k.val % 64) ≤ (j 1).val by omega, show (j 1).val < 16 * (k.val % 64) + 16 by omega⟩

end Cert.PadMask

end
-- ==== Proof.Windows.lean ====
/-
  Windows of a tile's rows: which rows a chunk or a row covers, splitting it off and joining it again, and what a copy
  into it adds to the rows done.
-/
module

public import proofs.«01_k».proof.Proof.Fills

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type}

local notation "𝕄" => MT nD τ sig (HIx 1) (Elt F) ℕ UU ℕ

variable [FloatOps F]
variable (d : Dev nD) (L : grid0.Coords)

/-! ## A window of a tile's rows -/

/-- A window of the operand's rows, and the tile's other rows. -/
theorem xWin {w : Fin 32} (r : Rect S32768x1024) (hs : ∀ a, r.stride a = 1) (h : r.set ⊆ rowsOf w) (f : Buf (Elt F) (xLoc d)) :
    (xRows d w f : sProp 𝕄) ⊣⊢ iprop((((xV).slice r hs).view.loc (thr d L) ↦[((xV).slice r hs).view.set]{fullShare} f)
      ∗ xLoc d ↦[rowsOf w \ r.set]{fullShare} f) := by
  have e : ((xV).slice r hs).view.set = r.set := View.set_slice_whole (main_v0_scv : Ref sig .scVector) r
  rw [e]
  exact pointsTo_split_subset (q := fullShare) (f := f) h

/-- A window of the result's rows, and the tile's other rows. -/
theorem oWin {w : Fin 32} (r : Rect S32768x1024) (hs : ∀ a, r.stride a = 1) (h : r.set ⊆ rowsOf w) (f : Buf (Elt F) (oLoc d)) :
    (oRows d w f : sProp 𝕄) ⊣⊢ iprop((((oV).slice r hs).view.loc (thr d L) ↦[((oV).slice r hs).view.set]{fullShare} f)
      ∗ oLoc d ↦[rowsOf w \ r.set]{fullShare} f) := by
  have e : ((oV).slice r hs).view.set = r.set := View.set_slice_whole (main_v1_scv : Ref sig .scVector) r
  rw [e]
  exact pointsTo_split_subset (q := fullShare) (f := f) h

/-- Writing a whole view at once is writing it. -/
theorem writes_all {κ : Kind} {sp : Space} {s : Shape} {e : EltTy} (v : View sig κ sp s e) (f : v.ty.Contents (Elt F)) (p : s.Idx → Elt F e) :
    v.writes (Elt F) f [⟨Rect.whole s, p⟩] = v.write (Elt F) f p Finset.univ := by
  rw [View.writes_singleton]
  funext i
  by_cases hi : i ∈ v.set
  · obtain ⟨y, -, rfl⟩ := Finset.mem_map.mp hi
    rw [View.write_emb_of_mem f p (Finset.mem_univ y)]
    have e1 : (v.slice (Rect.whole s)).emb y = v.emb y := congrArg v.emb (Rect.emb_whole_apply s y)
    rw [← e1]
    exact View.write_emb_of_mem (v := v.slice (Rect.whole s)) f p (Finset.mem_univ y)
  · rw [View.write_of_not_mem f p Finset.univ hi]
    refine View.write_of_not_mem (v := v.slice (Rect.whole s)) f p Finset.univ fun h => hi ?_
    obtain ⟨y, -, rfl⟩ := Finset.mem_map.mp h
    exact Finset.mem_map_of_mem _ (Finset.mem_univ _)

/-- The window written, with the other rows as they were: the tile's rows after the write. -/
theorem oJoin {w : Fin 32} (r : Rect S32768x1024) (hs : ∀ a, r.stride a = 1) (h : r.set ⊆ rowsOf w) (f : Buf (Elt F) (oLoc d))
    (p : r.shape.Idx → Elt F .f32) :
    iprop((((oV).slice r hs).view.loc (thr d L) ↦[((oV).slice r hs).view.set]{fullShare} ((oV).slice r hs).view.writes (Elt F) f [⟨Rect.whole _, p⟩])
      ∗ oLoc d ↦[rowsOf w \ r.set]{fullShare} f) ⊢ (oRows d w (((View.whole (main_v1_scv : Ref sig .scVector)).slice r).write (Elt F) f p Finset.univ) : sProp 𝕄) := by
  rw [writes_all]
  have e : (oLoc d ↦[rowsOf w \ r.set]{fullShare} f : sProp 𝕄)
      = (oLoc d ↦[rowsOf w \ r.set]{fullShare} ((oV).slice r hs).view.write (Elt F) f p Finset.univ : sProp 𝕄) :=
    pointsTo_congr fun j hj => (slice_write_off (F := F) (b := main_v1_scv) r f p (Finset.mem_sdiff.mp hj).2).symm
  rw [e]
  exact (oWin d L r hs h _).2

/-- A chunk's window is its 32 rows. -/
theorem mem_win32 {off : Fin 2 → Nat} {a : Nat} (ho : off = ![a, 0]) (inb) (j : S32768x1024.Idx) :
    j ∈ (Rect.unit (s := S32768x1024) off S32x1024.size inb).set ↔ a ≤ (j 0).val ∧ (j 0).val < a + 32 := by
  subst ho
  have h1 : (j 1).val < 1024 := idx2_lt1 j
  rw [Rect.mem_set_unit]
  exact ⟨fun h => h 0, fun h b => match b with
    | 0 => h
    | 1 => ⟨Nat.zero_le _, show (j 1).val < 0 + 1024 by omega⟩⟩

/-- A row's window is the row. -/
theorem mem_win1 {off : Fin 2 → Nat} {a : Nat} (ho : off = ![a, 0]) (inb) (j : S32768x1024.Idx) :
    j ∈ (Rect.unit (s := S32768x1024) off S1x1024.size inb).set ↔ a ≤ (j 0).val ∧ (j 0).val < a + 1 := by
  subst ho
  have h1 : (j 1).val < 1024 := idx2_lt1 j
  rw [Rect.mem_set_unit]
  exact ⟨fun h => h 0, fun h b => match b with
    | 0 => h
    | 1 => ⟨Nat.zero_le _, show (j 1).val < 0 + 1024 by omega⟩⟩

/-- The tile's rows, by their numbers. -/
theorem mem_rows {j : S32768x1024.Idx} : j ∈ rowsOf (wid L) ↔ base L ≤ (j 0).val ∧ (j 0).val < base L + 1024 := by
  rw [mem_rowsOf]
  have := cOf_lt L; have := sOf_lt L
  unfold wid base
  simp only
  omega

/-- A chunk inside the tile's rows. -/
theorem win32_sub {off : Fin 2 → Nat} {n : Nat} (ho : off = ![base L + n, 0]) (inb) (hn : n + 32 ≤ 1024) :
    (Rect.unit (s := S32768x1024) off S32x1024.size inb).set ⊆ rowsOf (wid L) := fun j hj => by
  have := (mem_win32 ho inb j).mp hj
  rw [mem_rows]; omega

/-- A row inside the tile's rows. -/
theorem win1_sub {off : Fin 2 → Nat} {n : Nat} (ho : off = ![base L + n, 0]) (inb) (hn : n + 1 ≤ 1024) :
    (Rect.unit (s := S32768x1024) off S1x1024.size inb).set ⊆ rowsOf (wid L) := fun j hj => by
  have := (mem_win1 ho inb j).mp hj
  rw [mem_rows]; omega

/-! ## What one copy adds -/

/-- A chunk of the operand written over its own rows, the rows before it copied already. -/
theorem Good.copy {off : Fin 2 → Nat} {k : Nat} (ho : off = ![base L + 32 * k, 0]) (inb)
    {x f : S32768x1024.Idx → F .f32} (hf : Good L x (32 * k) (32 * k) f) (p : S32x1024.Idx → F .f32)
    (hp : ∀ y, p y = x ((Rect.unit (s := S32768x1024) off S32x1024.size inb).emb y)) :
    Good L x (32 * (k + 1)) (32 * (k + 1))
      (((View.whole (main_v1_scv : Ref sig .scVector)).slice (Rect.unit (s := S32768x1024) off S32x1024.size inb)).write (Elt F) f p Finset.univ) := by
  refine fun j hj => ⟨fun h => ?_, fun h1 h2 => by omega⟩
  by_cases hr : j ∈ (Rect.unit (s := S32768x1024) off S32x1024.size inb).set
  · obtain ⟨y, hy, e⟩ := slice_write_mem (F := F) (b := main_v1_scv) _ f p hr
    exact e.trans ((hp y).trans (congrArg x hy))
  · have e := slice_write_off (F := F) (b := main_v1_scv) _ f p hr
    rw [mem_win32 ho] at hr
    exact e.trans ((hf j hj).1 (by omega))

/-- A row of the constant written next after the rows filled already. -/
theorem Good.fill1 {off : Fin 2 → Nat} {a b : Nat} (ho : off = ![base L + b, 0]) (inb) (hab : a ≤ b)
    {x f : S32768x1024.Idx → F .f32} (hf : Good L x a b f) (p : S1x1024.Idx → F .f32) (hp : ∀ y, p y = fillV) :
    Good L x a (b + 1)
      (((View.whole (main_v1_scv : Ref sig .scVector)).slice (Rect.unit (s := S32768x1024) off S1x1024.size inb)).write (Elt F) f p Finset.univ) := by
  intro j hj
  by_cases hr : j ∈ (Rect.unit (s := S32768x1024) off S1x1024.size inb).set
  · obtain ⟨y, hy, e⟩ := slice_write_mem (F := F) (b := main_v1_scv) _ f p hr
    rw [mem_win1 ho] at hr
    exact ⟨fun h => by omega, fun _ _ => e.trans (hp y)⟩
  · have e := slice_write_off (F := F) (b := main_v1_scv) _ f p hr
    rw [mem_win1 ho] at hr
    exact ⟨fun h => e.trans ((hf j hj).1 h), fun h1 h2 => e.trans ((hf j hj).2 h1 (by omega))⟩

/-- A chunk of the constant written next after the rows filled already. -/
theorem Good.fill32 {off : Fin 2 → Nat} {a b : Nat} (ho : off = ![base L + b, 0]) (inb) (hab : a ≤ b)
    {x f : S32768x1024.Idx → F .f32} (hf : Good L x a b f) (p : S32x1024.Idx → F .f32) (hp : ∀ y, p y = fillV) :
    Good L x a (b + 32)
      (((View.whole (main_v1_scv : Ref sig .scVector)).slice (Rect.unit (s := S32768x1024) off S32x1024.size inb)).write (Elt F) f p Finset.univ) := by
  intro j hj
  by_cases hr : j ∈ (Rect.unit (s := S32768x1024) off S32x1024.size inb).set
  · obtain ⟨y, hy, e⟩ := slice_write_mem (F := F) (b := main_v1_scv) _ f p hr
    rw [mem_win32 ho] at hr
    exact ⟨fun h => by omega, fun _ _ => e.trans (hp y)⟩
  · have e := slice_write_off (F := F) (b := main_v1_scv) _ f p hr
    rw [mem_win32 ho] at hr
    exact ⟨fun h => e.trans ((hf j hj).1 h), fun h1 h2 => e.trans ((hf j hj).2 h1 (by omega))⟩

end Cert.PadMask

end
-- ==== Proof.Copies.lean ====
/-
  The three copies a tile repeats on its rows of the result: a chunk of 32 rows copied from the operand, a row filled
  with the constant, a chunk of 32 rows filled with the constant.
-/
module

public import proofs.«01_k».proof.Proof.Windows

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type}

local notation "𝕄" => MT nD τ sig (HIx 1) (Elt F) ℕ UU ℕ

variable [FloatOps F]
variable (d : Dev nD) (L : grid0.Coords) (O : CellTallies nD τ sig (HIx 1)) (W : Waits sig (HIx 1))
  (x : Buf (Elt F) (xLoc d))

/-- The waits so far are the launch's, and ones that nothing of the launch depends on. -/
abbrev Owed : sProp 𝕄 := iprop(∃ W', ⌜∀ p ∈ W', p ∈ W ∨ p.2 = none⌝ ∗ owes (thr d L) O W')

/-- What a loop over the tile's rows of the result keeps: these rows, `a` of them copied and those up to `b` filled. -/
abbrev outInv (a b : Nat) : sProp 𝕄 := iprop(∃ f : Buf (Elt F) (oLoc d), ⌜Good L x a b f⌝ ∗ oRows d (wid L) f)

/-- Before trip `k` of the copying loop. -/
def copyInv (k : Nat) : sProp 𝕄 :=
  iprop(Transfers.MayWaits (thr d L) (none : HIx 1) O ∗ xRows d (wid L) x
    ∗ outInv d L x (32 * k) (32 * k)
    ∗ (∃ f : Buf (Elt F) ((sC).view.loc (thr d L)), (sC).view.loc (thr d L) ↦{fullShare} f)
    ∗ semVal (cell1 d L) 0 ∗ semVal (cell2 d L) 0 ∗ Owed d L O W)

/-- One trip of the copying loop. -/
theorem copy_step (v : BitVec 32) (hw : k0_chk1 L v) (k : Fin (k0_t3_loop L v).trips) (u : Unit) :
    copyInv d L O W x k.val ⊢ wp frame (wpE (defs₀ (F := F)) 𝒱₀ (thr d L) none) Set.univ
        (k0_t3_body L xV (Memref.isWhole_whole _) lV (Memref.isWhole_whole _) oV (Memref.isWhole_whole _)
          sL (Memref.isWhole_whole _) sR (Memref.isWhole_whole _) sF (Memref.isWhole_whole _) sC (Memref.isWhole_whole _)
          cc0_scoped0 cc0_scoped1 cc0_scoped2 cc0_scoped3 cc0_scoped4 cc0_scoped5 cc0_scoped6 cc0_scoped7 cc0_scoped8 v hw k u)
        fun _ => (copyInv d L O W x (k.val + 1) : sProp 𝕄) := by
  have hk : k.val < chs L v := lt_of_lt_of_eq k.isLt (t3_trips L v)
  have hq := chs_le L v
  have ho := off3_eq L v k
  have hsub := win32_sub L ho (k0_off3_inb L v hw k) (by omega)
  unfold k0_t3_body copyInv
  iintro ⟨Hmw, Hx, ⟨%f, %hf, Ho⟩, ⟨%g, Hs⟩, H1, H2, %W', %hW', HO⟩
  ihave Hx2 := (xWin d L (Rect.unit (s := S32768x1024) (k0_off3 L v k) S32x1024.size (k0_off3_inb L v hw k)) (fun _ => rfl) hsub x).1 $$ Hx
  icases Hx2 with ⟨Hxw, Hxr⟩
  ihave Ho2 := (oWin d L (Rect.unit (s := S32768x1024) (k0_off3 L v k) S32x1024.size (k0_off3_inb L v hw k)) (fun _ => rfl) hsub f).1 $$ Ho
  icases Ho2 with ⟨How, Hor⟩
  sl_exec
  sl_step
  ihave Hx := (xWin d L (Rect.unit (s := S32768x1024) (k0_off3 L v k) S32x1024.size (k0_off3_inb L v hw k)) (fun _ => rfl) hsub x).2 $$ [Hxw Hxr]
  · isplitl [Hxw] <;> iassumption
  ihave Ho := (oJoin d L (Rect.unit (s := S32768x1024) (k0_off3 L v k) S32x1024.size (k0_off3_inb L v hw k)) (fun _ => rfl) hsub f _) $$ [How Hor]
  · isplitl [How] <;> iassumption
  isplitl [Hmw]; · iexact Hmw
  isplitl [Hx]; · iexact Hx
  isplitl [Ho]
  · iexists _
    isplitr
    swap; · iexact Ho
    ipureintro
    refine Good.copy L ho _ hf _ fun y => ?_
    unfold copy_step.sl.dma0_1 copy_step.sl.dma0
    exact (congrFun (View.write_whole_univ (Val := Elt F) (cc0_scratch3 : Ref sig .scVector) g _) y).trans rfl
  isplitl [Hs]; · iexists _; iexact Hs
  isplitl [H1]; · iexact H1
  isplitl [H2]; · iexact H2
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- Before trip `k` of the row-filling loop. -/
def fillInv (v : BitVec 32) (k : Nat) : sProp 𝕄 :=
  iprop(Transfers.MayWaits (thr d L) (none : HIx 1) O
    ∗ outInv d L x (cnt L v) (cnt L v + k)
    ∗ (∃ f : Buf (Elt F) ((sR).view.loc (thr d L)), ⌜∀ y : S1x1024.Idx, f y = fillV⌝ ∗ (sR).view.loc (thr d L) ↦{fullShare} f)
    ∗ semVal (cell5 d L) 0 ∗ Owed d L O W)

/-- One trip of the row-filling loop. -/
theorem fill_step (v : BitVec 32) (hw : k0_chk1 L v) (k : Fin (k0_t5_loop L v).trips) (u : Unit) :
    fillInv d L O W x v k.val ⊢ wp frame (wpE (defs₀ (F := F)) 𝒱₀ (thr d L) none) Set.univ
        (k0_t5_body L xV (Memref.isWhole_whole _) lV (Memref.isWhole_whole _) oV (Memref.isWhole_whole _)
          sL (Memref.isWhole_whole _) sR (Memref.isWhole_whole _) sF (Memref.isWhole_whole _) sC (Memref.isWhole_whole _)
          cc0_scoped0 cc0_scoped1 cc0_scoped2 cc0_scoped3 cc0_scoped4 cc0_scoped5 cc0_scoped6 cc0_scoped7 cc0_scoped8 v hw k u)
        fun _ => (fillInv d L O W x v (k.val + 1) : sProp 𝕄) := by
  have hk : k.val < 32 * chs L v - cnt L v := lt_of_lt_of_eq k.isLt (t5_trips L v)
  have hq := chs_le L v
  have hbd : cnt L v + k.val + 1 ≤ 1024 := by omega
  have hab : cnt L v ≤ cnt L v + k.val := by omega
  have hnext : cnt L v + k.val + 1 = cnt L v + (k.val + 1) := by omega
  have ho := off5_eq L v k
  have hsub := win1_sub L ho (k0_off5_inb L v hw k) hbd
  unfold k0_t5_body fillInv
  iintro ⟨Hmw, ⟨%f, %hf, Ho⟩, ⟨%g, %hg, Hs⟩, H1, %W', %hW', HO⟩
  ihave Ho2 := (oWin d L (Rect.unit (s := S32768x1024) (k0_off5 L v k) S1x1024.size (k0_off5_inb L v hw k)) (fun _ => rfl) hsub f).1 $$ Ho
  icases Ho2 with ⟨How, Hor⟩
  sl_exec
  sl_step
  ihave Ho := (oJoin d L (Rect.unit (s := S32768x1024) (k0_off5 L v k) S1x1024.size (k0_off5_inb L v hw k)) (fun _ => rfl) hsub f _) $$ [How Hor]
  · isplitl [How] <;> iassumption
  isplitl [Hmw]; · iexact Hmw
  isplitl [Ho]
  · iexists _
    isplitr
    swap; · iexact Ho
    ipureintro
    rw [← hnext]
    refine Good.fill1 L ho _ hab hf _ fun y => ?_
    unfold fill_step.sl.dma0
    simp only [Memref.view_whole, View.read_whole]
    exact hg y
  isplitl [Hs]
  · iexists _; isplitr
    · ipureintro; exact hg
    · iexact Hs
  isplitl [H1]; · iexact H1
  iexists _; isplitr
  swap; · iexact HO
  ipureintro; intro p hp
  rcases Finset.mem_insert.mp hp with hp | hp; · exact .inr (hp ▸ rfl)
  exact hW' p hp

/-- Before trip `k` of the chunk-filling loop. -/
def padInv (v : BitVec 32) (k : Nat) : sProp 𝕄 :=
  iprop(Transfers.MayWaits (thr d L) (none : HIx 1) O
    ∗ outInv d L x (cnt L v) (32 * (chs L v + k))
    ∗ (∃ f : Buf (Elt F) ((sF).view.loc (thr d L)), ⌜∀ y : S32x1024.Idx, f y = fillV⌝ ∗ (sF).view.loc (thr d L) ↦{fullShare} f)
    ∗ semVal (cell7 d L) 0 ∗ Owed d L O W)

/-- One trip of the chunk-filling loop. -/
theorem pad_step (v : BitVec 32) (hw : k0_chk1 L v) (k : Fin (k0_t7_loop L v).trips) (u : Unit) :
    padInv d L O W x v k.val ⊢ wp frame (wpE (defs₀ (F := F)) 𝒱₀ (thr d L) none) Set.univ
        (k0_t7_body L xV (Memref.isWhole_whole _) lV (Memref.isWhole_whole _) oV (Memref.isWhole_whole _)
          sL (Memref.isWhole_whole _) sR (Memref.isWhole_whole _) sF (Memref.isWhole_whole _) sC (Memref.isWhole_whole _)
          cc0_scoped0 cc0_scoped1 cc0_scoped2 cc0_scoped3 cc0_scoped4 cc0_scoped5 cc0_scoped6 cc0_scoped7 cc0_scoped8 v hw k u)
        fun _ => (padInv d L O W x v (k.val + 1) : sProp 𝕄) := by
  have hk : k.val < 32 - chs L v := lt_of_lt_of_eq k.isLt (t7_trips L v)
  have hq := cnt_le_chs L v
  have hbd : 32 * (chs L v + k.val) + 32 ≤ 1024 := by omega
  have hab : cnt L v ≤ 32 * (chs L v + k.val) := by omega
  have hnext : 32 * (chs L v + k.val) + 32 = 32 * (chs L v + (k.val + 1)) := by omega
  have ho := off7_eq L v k
  have hsub := win32_sub L ho (k0_off7_inb L v hw k) hbd
  unfold k0_t7_body padInv
  iintro ⟨Hmw, ⟨%f, %hf, Ho⟩, ⟨%g, %hg, Hs⟩, H1, %W', %hW', HO⟩
  ihave Ho2 := (oWin d L (Rect.unit (s := S32768x1024) (k0_off7 L v k) S32x1024.size (k0_off7_inb L v hw k)) (fun _ => rfl) hsub f).1 $$ Ho
  icases Ho2 with ⟨How, Hor⟩
  sl_exec
  sl_step
  ihave Ho := (oJoin d L (Rect.unit (s := S32768x1024) (k0_off7 L v k) S32x1024.size (k0_off7_inb L v hw k)) (fun _ => rfl) hsub f _) $$ [How Hor]
  · isplitl [How] <;> iassumption
  isplitl [Hmw]; · iexact Hmw
  isplitl [Ho]
  · iexists _
    isplitr
    swap; · iexact Ho
    ipureintro
    rw [← hnext]
    refine Good.fill32 L ho _ hab hf _ fun y => ?_
    unfold pad_step.sl.dma0
    simp only [Memref.view_whole, View.read_whole]
    exact hg y
  isplitl [Hs]
  · iexists _; isplitr
    · ipureintro; exact hg
    · iexact Hs
  isplitl [H1]; · iexact H1
  iexists _; isplitr
  swap; · iexact HO
  ipureintro; intro p hp
  rcases Finset.mem_insert.mp hp with hp | hp; · exact .inr (hp ▸ rfl)
  exact hW' p hp

end Cert.PadMask

end
-- ==== Proof.Body.lean ====
/-
  A tile's run: the lengths fetched and its batch's read, the two scratch arrays filled, its chunks copied, and the rows
  and chunks that remain filled.
-/
module

public import proofs.«01_k».proof.Proof.Copies

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type}

local notation "𝕄" => MT nD τ sig (HIx 1) (Elt F) ℕ UU ℕ

variable [FloatOps F]
variable (d : Dev nD) (L : grid0.Coords) (x : Buf (Elt F) (xLoc d)) (l : Buf (Elt F) (lLoc d))

/-- What the tile reads back of the lengths it fetched is the lengths. -/
theorem fetched (g : (cc0_scratch0 : Ref sig .scVector).ty.Contents (Elt F)) :
    View.readAt (Elt F) (sL).view (Rect.unit ![0] S16.size inb_S16_S16_0).toLoadRect
      (View.write (Elt F) (sL).view g (ReadAs.same.apply (View.read (Elt F) (lV).view l)) Finset.univ) = l := by
  rw [show View.write (Elt F) (sL).view g (ReadAs.same.apply (View.read (Elt F) (lV).view l)) Finset.univ = l from
    (View.write_whole_univ (Val := Elt F) (cc0_scratch0 : Ref sig .scVector) g _).trans rfl]
  funext j
  exact congrArg l (show (Rect.unit (s := S16) ![0] S16.size inb_S16_S16_0).idx j = j from
    funext fun a => match a with | 0 => Fin.ext (by show 0 + 1 * (j 0).val = (j 0).val; omega))

/-- Nothing is filled yet. -/
theorem row_zero (g : Buf (Elt F) ((sR).view.loc (thr d L))) : ((sR).view.loc (thr d L) ↦{fullShare} g : sProp 𝕄) ⊢ rowInv d L 0 := by
  unfold rowInv
  iintro H
  iexists g; isplitr
  · ipureintro; intro j hj; exact absurd hj (by omega)
  · iexact H

/-- Nothing is filled yet. -/
theorem chunk_zero (g : Buf (Elt F) ((sF).view.loc (thr d L))) : ((sF).view.loc (thr d L) ↦{fullShare} g : sProp 𝕄) ⊢ chunkInv d L 0 := by
  unfold chunkInv
  iintro H
  iexists g; isplitr
  · ipureintro; intro j hj; exact absurd hj (by omega)
  · iexact H

/-- The body's second window fills the two scratch arrays with the constant. -/
theorem part2_run (v25 v35 : BitVec 32) :
    iprop(rowInv d L 0 ∗ chunkInv d L 0) ⊢ wp frame (wpE (defs₀ (F := F)) 𝒱₀ (thr d L) none) Set.univ
        (k0_part2 L xV (Memref.isWhole_whole _) lV (Memref.isWhole_whole _) oV (Memref.isWhole_whole _)
          sL (Memref.isWhole_whole _) sR (Memref.isWhole_whole _) sF (Memref.isWhole_whole _) sC (Memref.isWhole_whole _)
          cc0_scoped0 cc0_scoped1 cc0_scoped2 cc0_scoped3 cc0_scoped4 cc0_scoped5 cc0_scoped6 cc0_scoped7 cc0_scoped8 v25 v35)
        fun _ => iprop(rowInv d L 64 ∗ chunkInv (F := F) d L 2048) := by
  rw [k0_part2_eq_skeleton]; unfold k0_part2_skel
  iintro ⟨HR, HF⟩
  sl_exec
  sl_for (fun k _ => rowInv d L k) $$ [HR]
  case region => exact fun k u => row_step d L _ _ k u
  · iexact HR
  iintro %_ HR
  sl_exec
  sl_for (fun k _ => chunkInv d L k) $$ [HF]
  case region => exact fun k u => chunk_step d L _ _ k u
  · iexact HF
  iintro %_ HF
  sl_exec
  sl_step
  isplitl [HR]
  · iexact HR
  · iexact HF

set_option maxHeartbeats 4000000 in
/-- The tile's run. -/
theorem tile_body (hF : (K (F := F)).Facts) (O : CellTallies nD τ sig (HIx 1)) (W : Waits sig (HIx 1)) (hO : ∀ g, O g none = 0)
    (f₀ : Buf (Elt F) (oLoc d)) :
    iprop(levAts (K (F := F)).L (K (F := F)).lev ∗ emp ∗ piece d (wid L) x l f₀
        ∗ scopedBufs (thr d L) ∗ scopedSems0 (thr d L) ∗ owes (thr d L) O W)
      ⊢ wp frame (wpE (defs₀ (F := F)) 𝒱₀ (thr d L) none) Set.univ
          (cc0_body L xV (Memref.isWhole_whole _) lV (Memref.isWhole_whole _) oV (Memref.isWhole_whole _)
            sL (Memref.isWhole_whole _) sR (Memref.isWhole_whole _) sF (Memref.isWhole_whole _) sC (Memref.isWhole_whole _)
            cc0_scoped0 cc0_scoped1 cc0_scoped2 cc0_scoped3 cc0_scoped4 cc0_scoped5 cc0_scoped6 cc0_scoped7 cc0_scoped8)
          fun _ => iprop(piece d (wid L) x l (outRows (F := F) l x)
            ∗ scopedBufs (thr d L) ∗ scopedSems0 (thr d L) ∗ Owed d L O W) := by
  rw [cc0_body_eq_skeleton]; unfold cc0_body_skel
  rw [part1_eq]
  rw [(K (F := F)).scopedBufs_V hF d (cV L) (jV L), SparseCore.Cfg.scopedSems0_V (Val := Elt F) d (cV L) (jV L), ownSems0_V, ownBufs_V]
  iintro ⟨#Hlv, -, ⟨Hx, Hl, Ho⟩, ⟨⟨%g0, HsL⟩, ⟨%g1, HsR⟩, ⟨%g2, HsF⟩, HsC, Hbufs⟩, ⟨H0, H1, H2, H5, H7, Hsems⟩, HO⟩
  ihave Hmw := (show levAts (K (F := F)).L (K (F := F)).lev ⊢ Transfers.MayWaits (thr d L) (default : HIx 1) O from
    (K (F := F)).mayWaits_none (thr := thr d L) hO) $$ Hlv
  ihave Hl' := (Entails.of_eq (show (lShare d (wid L) l : sProp 𝕄) = (lV).view.loc (thr d L) ↦{leaf 5 fullShare (wid L)} l from rfl)) $$ Hl
  ihave HsL' := (Entails.of_eq (show ((thr d L).loc cc0_scratch0 ↦{fullShare} g0 : sProp 𝕄) = (sL).view.loc (thr d L) ↦{fullShare} g0 from rfl)) $$ HsL
  sl_exec
  rw [show View.readAt (Elt F) (sL).view (Rect.unit ![0] S16.size inb_S16_S16_0).toLoadRect
      (View.write (Elt F) (sL).view g0 (tile_body.sl.dma0 d l) Finset.univ) = l from fetched d l g0]
  have hc : k0_chk1 L (lenAt (F := F) l L) := chk1 L _
  have hcut := part2_run (F := F) d L (lenAt (F := F) l L) (remW (wW L))
  ihave HR := (show ((thr d L).loc cc0_scratch1 ↦{fullShare} g1 : sProp 𝕄) ⊢ rowInv d L 0 from row_zero d L g1) $$ HsR
  ihave HF := (show ((thr d L).loc cc0_scratch2 ↦{fullShare} g2 : sProp 𝕄) ⊢ chunkInv d L 0 from chunk_zero d L g2) $$ HsF
  sl_exec
  icases HsC with ⟨%g3, HsC⟩
  sl_for (fun k _ => copyInv d L O W x k) $$ [Hx Ho HsC H1 H2 HO]
  case region => exact fun k u => copy_step d L O W x _ hc k u
  · unfold copyInv
    isplitr; · iexact Hmw
    isplitl [Hx]; · iexact Hx
    isplitl [Ho]
    · iexists f₀; isplitr
      · ipureintro; exact Good.zero L x f₀
      · iexact Ho
    isplitl [HsC]; · iexists g3; iexact HsC
    isplitl [H1]; · iexact H1
    isplitl [H2]; · iexact H2
    iexists _; isplitr
    swap; · iexact HO
    ipureintro; intro p hp
    rcases Finset.mem_insert.mp hp with hp | hp; · exact .inr (hp ▸ rfl)
    exact .inl hp
  iintro %_ HI
  ihave HI := (Entails.of_eq (congrArg (copyInv d L O W x) (t3_trips L (lenAt (F := F) l L)))) $$ HI
  unfold copyInv
  icases HI with ⟨-, Hx, ⟨%f, %hf, Ho⟩, HsC, H1, H2, %W', %hW', HO⟩
  sl_for0 (t4_trips L (lenAt (F := F) l L))
  sl_for (fun k _ => fillInv d L O W x (lenAt (F := F) l L) k) $$ [Ho Hk0_part2_1 H5 HO]
  case region => exact fun k u => fill_step d L O W x _ hc k u
  · unfold fillInv
    isplitr; · iexact Hmw
    isplitl [Ho]
    · iexists f; isplitr
      · ipureintro; exact hf.shrink (cnt_le_chs L _)
      · iexact Ho
    isplitl [Hk0_part2_1]
    · iexists _; isplitr
      swap; · iexact Hk0_part2_1
      ipureintro; exact fun y => hk0_part2_0 y (by have := idx2_lt1 y; omega)
    isplitl [H5]; · iexact H5
    iexists W'; isplitr
    · ipureintro; exact hW'
    · iexact HO
  iintro %_ HI
  ihave HI := (Entails.of_eq (congrArg (fillInv d L O W x (lenAt (F := F) l L)) (t5_trips L (lenAt (F := F) l L)))) $$ HI
  unfold fillInv
  icases HI with ⟨-, ⟨%f5, %hf5, Ho⟩, ⟨%gR, -, HsR⟩, H5, %W5, %hW5, HO⟩
  sl_for0 (t6_trips L (lenAt (F := F) l L))
  sl_for (fun k _ => padInv d L O W x (lenAt (F := F) l L) k) $$ [Ho Hk0_part2_3 H7 HO]
  case region => exact fun k u => pad_step d L O W x _ hc k u
  · unfold padInv
    isplitr; · iexact Hmw
    isplitl [Ho]
    · iexists f5; isplitr
      · ipureintro
        have hq := cnt_le_chs L (lenAt (F := F) l L)
        rwa [show cnt L (lenAt (F := F) l L) + (32 * chs L (lenAt (F := F) l L) - cnt L (lenAt (F := F) l L))
          = 32 * (chs L (lenAt (F := F) l L) + 0) by omega] at hf5
      · iexact Ho
    isplitl [Hk0_part2_3]
    · iexists _; isplitr
      swap; · iexact Hk0_part2_3
      ipureintro; exact fun y => hk0_part2_2 y (by have := idx2_lt0 y; have := idx2_lt1 y; omega)
    isplitl [H7]; · iexact H7
    iexists W5; isplitr
    · ipureintro; exact hW5
    · iexact HO
  iintro %_ HI
  ihave HI := (Entails.of_eq (congrArg (padInv d L O W x (lenAt (F := F) l L)) (t7_trips L (lenAt (F := F) l L)))) $$ HI
  unfold padInv
  icases HI with ⟨-, ⟨%f7, %hf7, Ho⟩, ⟨%gF, -, HsF⟩, H7, %W7, %hW7, HO⟩
  sl_for0 (t8_trips L (lenAt (F := F) l L))
  sl_exec
  sl_step
  have hq := chs_le L (lenAt (F := F) l L)
  rw [show 32 * (chs L (lenAt (F := F) l L) + (32 - chs L (lenAt (F := F) l L))) = 1024 by omega] at hf7
  ihave Ho := (Entails.of_eq (show (oRows d (wid L) f7 : sProp 𝕄) = oRows d (wid L) (outRows (F := F) l x) from
    pointsTo_congr (Good.out hf7))) $$ Ho
  isplitl [Hx Hl' Ho]
  · isplitl [Hx]; · iexact Hx
    isplitl [Hl']; · iexact Hl'
    iexact Ho
  isplitl [HsL' HsR HsF HsC Hbufs]
  · isplitl [HsL']; · iexists _; iexact HsL'
    isplitl [HsR]; · iexists _; iexact HsR
    isplitl [HsF]; · iexists _; iexact HsF
    isplitl [HsC]; · iexact HsC
    iexact Hbufs
  isplitl [H0 H1 H2 H5 H7 Hsems]
  · isplitl [H0]; · iexact H0
    isplitl [H1]; · iexact H1
    isplitl [H2]; · iexact H2
    isplitl [H5]; · iexact H5
    isplitl [H7]; · iexact H7
    iexact Hsems
  iexists W7; isplitr
  · ipureintro; exact hW7
  · iexact HO

end Cert.PadMask

end
-- ==== Proof.Tiles.lean ====
/-
  The whole arrays and the tiles' pieces: the operand's rows and the result's are the thirty-two tiles' rows together,
  the lengths the thirty-two shares together.
-/
module

public import proofs.«01_k».proof.Proof.Body

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type}

local notation "𝕄" => MT nD τ sig (HIx 1) (Elt F) ℕ UU ℕ

/-- The number of the tile of core `c` and number `s`. -/
def tl (c : Fin 2) (s : Fin 16) : Fin 32 := wid (coordsV (Fin.cast (show 2 = grid0.bound 0 from rfl) c) (Fin.cast (show 16 = grid0.bound 1 from rfl) s))

/-- It is twice its number plus its core. -/
theorem tl_val (c : Fin 2) (s : Fin 16) : (tl c s).val = 2 * s.val + c.val := rfl

/-- The tiles are counted once each. -/
def tiles : Fin 2 × Fin 16 ≃ Fin 32 where
  toFun p := tl p.1 p.2
  invFun w := (⟨w.val % 2, Nat.mod_lt _ (by decide)⟩, ⟨w.val / 2, by have := w.isLt; omega⟩)
  left_inv p := Prod.ext (Fin.ext (by have := tl_val p.1 p.2; have := p.1.isLt; show (tl p.1 p.2).val % 2 = _; omega))
    (Fin.ext (by have := tl_val p.1 p.2; have := p.1.isLt; show (tl p.1 p.2).val / 2 = _; omega))
  right_inv w := Fin.ext ((tl_val _ _).trans (by show 2 * (w.val / 2) + w.val % 2 = _; omega))

/-- What is held per tile, core by core. -/
theorem bigSep_tiles (Φ : Fin 32 → sProp 𝕄) :
    bigSep Finset.univ Φ = bigSep Finset.univ fun c : Fin 2 => bigSep Finset.univ fun s : Fin 16 => Φ (tl c s) := by
  rw [bigSep_univ_equiv tiles Φ, bigSep_univ_prod]; rfl

/-- The operand's rows are the tiles' rows. -/
theorem xWhole (d : Dev nD) (x : Buf (Elt F) (xLoc d)) :
    (xLoc d ↦{fullShare} x : sProp 𝕄) = bigSep Finset.univ fun w : Fin 32 => xRows d w x := by
  rw [← pointsTo_biUnion Finset.univ (ℓ := xLoc d) rowsOf rowsOf_disjoint, rowsOf_cover]

/-- The result's rows are the tiles' rows. -/
theorem oWhole (d : Dev nD) (f : Buf (Elt F) (oLoc d)) :
    (oLoc d ↦{fullShare} f : sProp 𝕄) = bigSep Finset.univ fun w : Fin 32 => oRows d w f := by
  rw [← pointsTo_biUnion Finset.univ (ℓ := oLoc d) rowsOf rowsOf_disjoint, rowsOf_cover]

/-- The lengths are the tiles' shares. -/
theorem lWhole (d : Dev nD) (l : Buf (Elt F) (lLoc d)) :
    (lLoc d ↦{fullShare} l : sProp 𝕄) = bigSep Finset.univ fun w : Fin 32 => lShare d w l :=
  pointsTo_leaves Finset.univ l 5 fullShare

/-- Everything the call takes is the tiles' pieces. -/
theorem pieces (d : Dev nD) (x : Buf (Elt F) (xLoc d)) (l : Buf (Elt F) (lLoc d)) (f : Buf (Elt F) (oLoc d)) :
    (bigSep Finset.univ fun c : Fin 2 => bigSep Finset.univ fun s : Fin 16 => (piece d (tl c s) x l f : sProp 𝕄))
      = iprop((xLoc d ↦{fullShare} x) ∗ (lLoc d ↦{fullShare} l) ∗ oLoc d ↦{fullShare} f) := by
  rw [xWhole, lWhole, oWhole, ← bigSep_tiles (F := F) fun w => piece d w x l f, bigSep_sep', bigSep_sep']

end Cert.PadMask

end
-- ==== Proof.Launch.lean ====
/-
  The launch: what the call hands each tile and takes back, each tile's run as the launch asks for it, and the launch's
  own counters.
-/
module

public import proofs.«01_k».proof.Proof.Tiles

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type}

local notation "𝕄" => MT nD τ sig (HIx 1) (Elt F) ℕ UU ℕ

variable (m : (ℓ : Loc nD τ sig) → Buf (Elt F) ℓ)

/-- The operand's rows as the first reshape leaves them. -/
def X (d : Dev nD) : Buf (Elt F) (xLoc d) :=
  shapeCast S32768x1024 (m (aLoc d) : S16x2048x1024.Idx → F .f32) shapeCasts_S16x2048x1024_S32768x1024

variable [FloatOps F]

/-- The result's rows as the call leaves them. -/
def R (d : Dev nD) : Buf (Elt F) (oLoc d) := outRows (F := F) (m (lLoc d)) (X m d)

/-- The tile of core `c` and number `i`, among the thirty-two. -/
abbrev tc (c : Fin ((K (F := F)).nCore 0)) (i : Fin ((K (F := F)).nSub 0)) : Fin 32 := tl (Fin.cast nCore_zero c) (Fin.cast nSub_zero i)

/-- A tile's piece before the call. -/
abbrev before (d : Dev nD) (c : Fin ((K (F := F)).nCore 0)) (i : Fin ((K (F := F)).nSub 0)) : sProp 𝕄 :=
  piece d (tc c i) (X m d) (m (lLoc d)) (m (oLoc d))
/-- A tile's piece after it. -/
abbrev past (d : Dev nD) (c : Fin ((K (F := F)).nCore 0)) (i : Fin ((K (F := F)).nSub 0)) : sProp 𝕄 :=
  piece d (tc c i) (X m d) (m (lLoc d)) (R m d)

/-- Each core takes its tiles' pieces, each tile its own, and all bring them back, the result's rows written. -/
def P : (K (F := F)).Pay (nD := nD) (Val := Elt F) (Name := ℕ) (U := UU) where
  st := fun q d c => match q with | 0 => bigSep Finset.univ fun i => before m d c i
  dn := fun q d c => match q with | 0 => bigSep Finset.univ fun i => past m d c i
  go := fun q d c i => match q with | 0 => before m d c i
  td := fun q d c i => match q with | 0 => past m d c i
  x := fun _ _ => iprop(emp)

/-- Every tile's share of the launch can be stored. -/
instance P_storable : (P (F := F) m).IsStorable where
  st q d c := match q with
    | 0 => (inferInstance : BI.Storable (upEmb : UEmb _ 𝕄) (bigSep Finset.univ fun i => before m d c i))
  dn q d c := match q with
    | 0 => (inferInstance : BI.Storable (upEmb : UEmb _ 𝕄) (bigSep Finset.univ fun i => past m d c i))
  go q d c i := match q with
    | 0 => (inferInstance : BI.Storable (upEmb : UEmb _ 𝕄) (before m d c i))
  td q d c i := match q with
    | 0 => (inferInstance : BI.Storable (upEmb : UEmb _ 𝕄) (past m d c i))

/-- What a tile of the call runs. -/
theorem defs₀_vector (c : Fin τ.nSC) (s : Fin τ.nSub) :
    defs₀ (F := F) (.scVector c s) 0 ()
      = SparseCore.onTile hcore0 hsub0 (fun c s => cc0_body (coordsV c s)
          xV (Memref.isWhole_whole _) lV (Memref.isWhole_whole _) oV (Memref.isWhole_whole _)
          sL (Memref.isWhole_whole _) sR (Memref.isWhole_whole _) sF (Memref.isWhole_whole _) sC (Memref.isWhole_whole _)
          cc0_scoped0 cc0_scoped1 cc0_scoped2 cc0_scoped3 cc0_scoped4 cc0_scoped5 cc0_scoped6 cc0_scoped7 cc0_scoped8) ⟨⟩ c s := rfl

/-- A tile that waited only on counters of its own waited only as the call allows. -/
theorem obl_post {d : Dev nD} {L : grid0.Coords} {A B C : sProp 𝕄} {O : CellTallies nD τ sig (HIx 1)} {W : Waits sig (HIx 1)} {q : Fin 1} :
    iprop(A ∗ B ∗ C ∗ Owed d L O W)
      ⊢ iprop(A ∗ B ∗ C ∗ ∃ W', ⌜∀ p ∈ W', p ∈ W ∨ p.2 = none ∨ p.2 = some q⌝ ∗ owes (thr d L) O W') := by
  unfold Owed
  iintro ⟨HA, HB, HC, %W', %h, HO⟩
  isplitl [HA]; · iexact HA
  isplitl [HB]; · iexact HB
  isplitl [HC]; · iexact HC
  iexists W'; isplitr
  · ipureintro; intro p hp; rcases h p hp with h | h
    · exact .inl h
    · exact .inr (.inl h)
  · iexact HO

set_option maxRecDepth 16384 in
set_option maxHeartbeats 4000000 in
/-- Every tile's run, as the launch asks for it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X m d) (m (lLoc d)) hF O W hO (m (oLoc d))).trans
    (wp_mono frame _ _ fun _ => obl_post)

/-- A core's pieces are its tiles'. -/
theorem vecSplit : (K (F := F)).VecSplit' (P m) 0 := by
  intro d c
  show (bigSep Finset.univ fun i => before m d c i) ⊢ |={Set.univ}=> iprop((bigSep Finset.univ fun i => before m d c i)
    ∗ ((bigSep Finset.univ fun i => past m d c i) -∗ bigSep Finset.univ fun i => past m d c i))
  iintro H; imodintro
  isplitl [H]; · iexact H
  iintro H; iexact H

/-- What the call takes: the operand's rows, the lengths, the result's rows. -/
theorem st0_eq (d : Dev nD) : (bigSep Finset.univ fun c : Fin ((K (F := F)).nCore 0) => (P m).st 0 d c)
    = iprop((xLoc d ↦{fullShare} X m d) ∗ (lLoc d ↦{fullShare} m (lLoc d)) ∗ oLoc d ↦{fullShare} m (oLoc d)) :=
  pieces d (X m d) (m (lLoc d)) (m (oLoc d))

/-- What it brings back. -/
theorem dn0_eq (d : Dev nD) : (bigSep Finset.univ fun c : Fin ((K (F := F)).nCore 0) => (P m).dn 0 d c)
    = iprop((xLoc d ↦{fullShare} X m d) ∗ (lLoc d ↦{fullShare} m (lLoc d)) ∗ oLoc d ↦{fullShare} R m d) :=
  pieces d (X m d) (m (lLoc d)) (R m d)

/-! ## The launch's own state -/

/-- The launch's rounds, and no copy begun. -/
def u₀ : UU := (initOf (K (F := F)).hsCells (K (F := F)).hsToks, 1)

/-- From it: the launch's rounds; the kernel adds nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun thr : Thread nD τ => bigSep Finset.univ fun q : Fin 1 => (P (F := F) m).x q thr) = iprop(emp) from
    (bigSep_congr fun _ _ => bigSep_emp_const _).trans (bigSep_emp_const _),
    show (bigSep Finset.univ fun _ : Dev nD => (iprop(emp) : sProp 𝕄)) = iprop(emp) from bigSep_emp_const _]
  isplitr <;> iempintro

end Cert.PadMask

end
-- ==== Proof.Main.lean ====
/-
  The program's run: the operand reshaped to rows, the call, its rows reshaped back.
-/
module

public import proofs.«01_k».proof.Proof.Launch

@[expose] public section

noncomputable section

namespace Cert.PadMask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 idx2_lt0 idx2_lt1)

variable {F : FTy → Type}

local notation "𝕄" => MT nD τ sig (HIx 1) (Elt F) ℕ UU ℕ

variable (m : (ℓ : Loc nD τ sig) → Buf (Elt F) ℓ) (ρ : Dev nD → PrngReg)

/-- The operand, among the device's arrays. -/
abbrev a' : DevRef τ sig := Proc.devRef .tc (main_arg0 : Ref sig .tc)
/-- The lengths. -/
abbrev l' : DevRef τ sig := Proc.devRef .tc (main_arg1 : Ref sig .tc)
/-- The operand's rows. -/
abbrev x' : DevRef τ sig := Proc.devRef .tc (main_v0 : Ref sig .tc)
/-- The result's rows. -/
abbrev o' : DevRef τ sig := Proc.devRef .tc (main_v1 : Ref sig .tc)
/-- The result. -/
abbrev r' : DevRef τ sig := Proc.devRef .tc (main_v2 : Ref sig .tc)
/-- All of them. -/
abbrev S5 : Finset (DevRef τ sig) := {a', l', x', o', r'}

/-- The first reshape. -/
abbrev opIn : HloOp τ sig (Elt F) := StableHlo.reshape main_arg0 main_v0 (rfl : (.f32 : EltTy) = .f32) shapeCasts_S16x2048x1024_S32768x1024
/-- The last. -/
abbrev opOut : HloOp τ sig (Elt F) := StableHlo.reshape main_v1 main_v2 (rfl : (.f32 : EltTy) = .f32) shapeCasts_S32768x1024_S16x2048x1024

/-- The five arrays one by one. -/
theorem held_S5 (d : Dev nD) (W : Valuation τ sig (Elt F)) :
    (held (T d) S5 W : sProp 𝕄) = iprop((aLoc d ↦{fullShare} W a') ∗ (lLoc d ↦{fullShare} W l') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The arrays' contents at the start. -/
def V0 (d : Dev nD) : Valuation τ sig (Elt F) := fun b => m (d, b)

/-- The arrays the program starts with are the five. -/
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- After the first reshape: the operand's rows hold the operand. -/
theorem in_x (d : Dev nD) : (opIn (F := F)).result (V0 m d) x' = X m d :=
  StableHlo.reshape_result' (x := main_arg0) (y := main_v0) _ _ _ _ _
/-- The operand is as it was. -/
theorem in_a (d : Dev nD) : (opIn (F := F)).result (V0 m d) a' = m (aLoc d) :=
  StableHlo.reshape_result_ne' (x := main_arg0) (y := main_v0) _ _ _ _ _ (by decide)
/-- The lengths are as they were. -/
theorem in_l (d : Dev nD) : (opIn (F := F)).result (V0 m d) l' = m (lLoc d) :=
  StableHlo.reshape_result_ne' (x := main_arg0) (y := main_v0) _ _ _ _ _ (by decide)
/-- The result's rows are as they were. -/
theorem in_o (d : Dev nD) : (opIn (F := F)).result (V0 m d) o' = m (oLoc d) :=
  StableHlo.reshape_result_ne' (x := main_arg0) (y := main_v0) _ _ _ _ _ (by decide)
/-- The result is as it was. -/
theorem in_r (d : Dev nD) : (opIn (F := F)).result (V0 m d) r' = m (rLoc d) :=
  StableHlo.reshape_result_ne' (x := main_arg0) (y := main_v0) _ _ _ _ _ (by decide)

variable [FloatOps F]

/-- The arrays' contents after the call. -/
def V1 (d : Dev nD) : Valuation τ sig (Elt F) := Function.update ((opIn (F := F)).result (V0 m d)) o' (R m d)

/-- The result: the rows in the operand's shape. -/
def Y (d : Dev nD) : Buf (Elt F) (rLoc d) :=
  shapeCast S16x2048x1024 (R m d : S32768x1024.Idx → F .f32) shapeCasts_S32768x1024_S16x2048x1024

/-- After the call the result's rows are written. -/
theorem V1_o (d : Dev nD) : V1 m d o' = R m d := Function.update_self _ _ _
/-- The operand is as it was. -/
theorem V1_a (d : Dev nD) : V1 m d a' = m (aLoc d) := (Function.update_of_ne (show a' ≠ o' by decide) _ _).trans (in_a m d)
/-- The lengths are as they were. -/
theorem V1_l (d : Dev nD) : V1 m d l' = m (lLoc d) := (Function.update_of_ne (show l' ≠ o' by decide) _ _).trans (in_l m d)
/-- The operand's rows are as they were. -/
theorem V1_x (d : Dev nD) : V1 m d x' = X m d := (Function.update_of_ne (show x' ≠ o' by decide) _ _).trans (in_x m d)
/-- The result is as it was. -/
theorem V1_r (d : Dev nD) : V1 m d r' = m (rLoc d) := (Function.update_of_ne (show r' ≠ o' by decide) _ _).trans (in_r m d)

/-- After the last reshape: the result. -/
theorem out_r (d : Dev nD) : (opOut (F := F)).result (V1 m d) r' = Y m d :=
  (StableHlo.reshape_result' (x := main_v1) (y := main_v2) _ _ _ _ _).trans
    (by rw [V1_o]; rfl)
/-- The operand is as it was. -/
theorem out_a (d : Dev nD) : (opOut (F := F)).result (V1 m d) a' = m (aLoc d) :=
  (StableHlo.reshape_result_ne' (x := main_v1) (y := main_v2) _ _ _ _ _ (by decide)).trans (V1_a m d)
/-- The lengths are as they were. -/
theorem out_l (d : Dev nD) : (opOut (F := F)).result (V1 m d) l' = m (lLoc d) :=
  (StableHlo.reshape_result_ne' (x := main_v1) (y := main_v2) _ _ _ _ _ (by decide)).trans (V1_l m d)

/-- What the program leaves: the operand and the lengths as they were, the result. -/
abbrev FIN (d : Dev nD) : sProp 𝕄 :=
  iprop((aLoc d ↦{fullShare} m (aLoc d)) ∗ (lLoc d ↦{fullShare} m (lLoc d)) ∗ rLoc d ↦{fullShare} Y m d)

/-- The first reshape touches two of the five arrays. -/
theorem in_sub : (opIn (F := F)).bufs ⊆ S5 := by rw [StableHlo.reshape_bufs]; decide
/-- So does the last. -/
theorem out_sub : (opOut (F := F)).bufs ⊆ S5 := by rw [StableHlo.reshape_bufs]; decide

/-- The program on a device: the reshape, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) in_sub (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  rw [in_a, in_l, in_x, in_o, in_r]
  icases Hh with ⟨Ha, Hl, Hx, Ho, Hr⟩
  iapply ((K (F := F)).wp_run (D (F := F)) 𝒱 (EH := EH) (P := P m) κ d 0) $$ [Hst Ha Hl Hx Ho Hr Hb Hts]
  isplitr; · iexact Hctx
  isplitl [Hst]; · iexact Hst
  isplitl [Hl Hx Ho]
  · rw [st0_eq]
    isplitl [Hx]; · iexact Hx
    isplitl [Hl]; · iexact Hl
    iexact Ho
  iintro ⟨Hst, Hdn⟩
  ihave Hdn' := (Entails.of_eq (dn0_eq m d)) $$ Hdn
  icases Hdn' with ⟨Hx, Hl, Ho⟩
  iapply (wp_hlo_within 𝒱 (SparseCore.T d) none Set.univ (op := opOut) (S := S5) out_sub (V := V1 m d)) $$ [Hb Ha Hl Hx Ho Hr]
  · isplitl [Hb]; · iexact Hb
    rw [held_S5, V1_a, V1_l, V1_x, V1_o, V1_r]
    isplitl [Ha]; · iexact Ha
    isplitl [Hl]; · iexact Hl
    isplitl [Hx]; · iexact Hx
    isplitl [Ho]; · iexact Ho
    iexact Hr
  iintro ⟨Hb, Hheld⟩
  ihave Hh := (Entails.of_eq (held_S5 (F := F) d _)) $$ Hheld
  rw [out_a, out_l, out_r]
  icases Hh with ⟨Ha, Hl, -, -, Hr⟩
  rw [wp_ret]; imodintro; imodintro
  isplitl [Hst]; · iexact Hst
  isplitr [Hb Hts]
  · isplitl [Ha]; · iexact Ha
    isplitl [Hl]; · iexact Hl
    iexact Hr
  isplitl [Hb] <;> iassumption

/-- What is claimed of a device's memory at the end. -/
def fq (d : Dev nD) (s' : Phys nD τ sig (Elt F)) : Prop :=
  s'.mem.mem (aLoc d) = m (aLoc d) ∧ s'.mem.mem (lLoc d) = m (lLoc d) ∧ s'.mem.mem (rLoc d) = Y m d

set_option maxRecDepth 16384 in
/-- What the program leaves says so. -/
theorem hfin (d : Dev nD) (s' : Phys nD τ sig (Elt F)) : iprop(FIN m d ∗ SI s') ⊢ (⌜fq m d s'⌝ : sProp 𝕄) := by
  iintro ⟨⟨Ha, Hl, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := rLoc d) (I := Finset.univ) (q := fullShare) (f := Y m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The run's end: on every device the arguments as they were and the result, and every counter at zero. -/
def QC : PUnit × MemSt nD τ sig (Elt F) → Prop := fun r =>
  (∀ c : Dev nD, r.2.mem (aLoc c) = m (aLoc c) ∧ r.2.mem (lLoc c) = m (lLoc c) ∧ r.2.mem (rLoc c) = Y m c) ∧ r.2.sem = fun _ => 0

/-- The program's run, over any floats and from any lengths. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨h, hz⟩)

end Cert.PadMask

end
-- ==== Proof.Ref.lean ====
/-
  The reference: its runs, and its result in closed form, the operand where the row's number is below its batch's length
  and the constant elsewhere.
-/
module

public import proofs.«01_k».proof.Defs
public import proofs.«01_k».proof.Proof.Spec
public import Idealize.ShloMosaic.Lib.Quiescent
public import proofs.«01_k».proof.Proof.Gen.Reference.Run
public import proofs.«01_k».proof.Proof.Gen.ReferenceIdeal.Run
public import proofs.«01_k».proof.Proof.Gen.Pre_lens_in_range

@[expose] public section

noncomputable section

namespace Cert.PadMask

open Cert.ReferenceIdeal Cert.ReferenceIdeal.Gen
open Idealize.ShloMosaic Idealize.SL.Sem
open Idealize.ShloMosaic.ValueIdx (ix1 ix2 ix3 idx2_lt0 idx2_lt1)

variable {F : FTy → Type} [FloatOps F]

/-- The operand where the row's number is below its batch's length, the constant elsewhere. -/
def masked (lens : S16.Idx → BitVec 32) (a : S16x2048x1024.Idx → F .f32) : S16x2048x1024.Idx → F .f32 := fun j =>
  if ((j 1).val : Int) < (lens (ix1 (n := 16) (j 0))).toInt then a j else fillV

/-- The reference's result, as its operations compute it. -/
def refOut (l : S16.Idx → BitVec 32) (a : S16x2048x1024.Idx → F .f32) : S16x2048x1024.Idx → F .f32 :=
  select (broadcastInDim S16x2048x1024 ![0, 1, 2] bcast_S16x2048x1_S16x2048x1024_0_1_2 (broadcastInDim S16x2048x1 ![0, 1] bcast_S16x2048_S16x2048x1_0_1 (cmpi .sge (broadcastInDim S16x2048 ![0, 1] bcast_S1x2048_S16x2048_0_1 (broadcastInDim S1x2048 ![1] bcast_S2048_S1x2048_1 (addi (broadcastInDim S2048 ![] bcast_S_S2048 (constantI S_ 32 0#32)) (muli (broadcastInDim S2048 ![] bcast_S_S2048 (constantI S_ 32 1#32)) (iotaInDim S2048 32 0))))) (broadcastInDim S16x2048 ![0, 1] bcast_S16x1_S16x2048_0_1 (broadcastInDim S16x1 ![0] bcast_S16_S16x1_0 l))))) (broadcastInDim S16x2048x1024 ![] bcast_S_S16x2048x1024 (constant S_ .f32 0xC61C4000#32)) a

/-- Choosing the constant where the row's number is at least the length. -/
theorem select_ge (n : Nat) (hn : n < 2048) (v : BitVec 32) (x y : F .f32) :
    Scalar.select (IntOp.cmpi .sge (IntOp.addi 0#32 (IntOp.muli 1#32 (BitVec.ofNat 32 n))) v) x y
      = if (n : Int) < v.toInt then y else x := by
  have e : IntOp.addi 0#32 (IntOp.muli 1#32 (BitVec.ofNat 32 n)) = BitVec.ofNat 32 n := by
    simp only [IntOp.addi, IntOp.muli, BitVec.one_mul, BitVec.zero_add]
  have ht : (BitVec.ofNat 32 n).toInt = n := by
    rw [BitVec.toInt_eq_toNat_cond, BitVec.toNat_ofNat]
    omega
  rw [e]
  unfold Scalar.select
  simp only [IntOp.cmpi, BitVec.sle_eq_decide, ht]
  by_cases h : (n : Int) < v.toInt
  · rw [if_pos h, if_neg]
    rw [decide_eq_false (by omega)]; decide
  · rw [if_neg h, if_pos]
    rw [decide_eq_true (by omega)]; rfl

/-- The reference's result. -/
theorem refOut_eq (l : S16.Idx → BitVec 32) (a : S16x2048x1024.Idx → F .f32) : refOut l a = masked l a := by
  funext j
  refine Eq.trans ?_ (select_ge (j 1).val (j 1).isLt (l (ix1 (n := 16) (j 0))) fillV (a j))
  unfold refOut
  have hi : ∀ p q : S16.Idx, (p 0).val = (q 0).val → l p = l q := fun p q h =>
    congrArg l (funext fun a => match a with | ⟨0, _⟩ => Fin.ext h)
  show Scalar.select (IntOp.cmpi .sge (IntOp.addi 0#32 (IntOp.muli 1#32 (BitVec.ofNat 32 (j 1).val))) (l _)) fillV (a j) = _
  exact congrArg (fun v => Scalar.select (IntOp.cmpi .sge (IntOp.addi 0#32 (IntOp.muli 1#32 (BitVec.ofNat 32 (j 1).val))) v) fillV (a j))
    (hi _ (ix1 (n := 16) (j 0)) rfl)

/-- The reference runs, over the extended reals: its arguments stay and every counter ends at zero. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference runs, over the machine's floats: its arguments stay and every counter ends at zero. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

end Cert.PadMask

end
-- ==== Proof.Equation.lean ====
/-
  The two programs' results are one array: the operand where the row's number is below its batch's length, the constant
  elsewhere. The kernel's, when no length is so small that subtracting 1024 from it leaves the 32-bit integers; the
  reference's, always.
-/
module

public import proofs.«01_k».proof.Proof.Main
public import proofs.«01_k».proof.Proof.Ref
public import Idealize.ShloMosaic.Lib.Pipeline.Value

@[expose] public section

noncomputable section

namespace Cert.PadMask

open Cert.KernelIdeal
open Idealize.ShloMosaic Idealize.SL.Sem
open Idealize.ShloMosaic.ValueIdx (ix1 ix2 ix3 idx2_lt0 idx2_lt1)

variable {F : FTy → Type} [FloatOps F]

/-- Of a half, the number of rows copied, when the subtraction stays within the 32-bit integers. -/
theorem cntAt_eq {c : Nat} (hc : c < 2) (v : BitVec 32) (hv : -2147482624 ≤ v.toInt) :
    (cntAt c v : Int) = min 1024 (max 0 (v.toInt - 1024 * c)) :=
  cnt_eq (coordsV ⟨c, hc⟩ ⟨0, by decide⟩) v hv

/-- A half's row is copied exactly when its number within the batch is below the length. -/
theorem lt_cntAt (n : Nat) (v : BitVec 32) (hv : -2147482624 ≤ v.toInt) :
    n % 1024 < cntAt (n / 1024 % 2) v ↔ ((n % 2048 : Nat) : Int) < v.toInt := by
  have h := cntAt_eq (c := n / 1024 % 2) (by omega) v hv
  omega

/-- The kernel's result. -/
theorem Y_eq (m : (ℓ : Loc nD τ sig) → Buf (Elt F) ℓ) (d : Dev nD)
    (h : ∀ i : S16.Idx, -2147482624 ≤ ((m (lLoc d) : S16.Idx → BitVec 32) i).toInt) :
    (Y m d : S16x2048x1024.Idx → F .f32) = masked (m (lLoc d)) (m (aLoc d)) := by
  funext j
  have h0 : (j 0).val < 16 := (j 0).isLt
  have h1 : (j 1).val < 2048 := (j 1).isLt
  have h2 : (j 2).val < 1024 := (j 2).isLt
  have hk : (S32768x1024.rowMajor (ix2 (n0 := 32768) (n1 := 1024) ⟨2048 * (j 0).val + (j 1).val, by omega⟩ ⟨(j 2).val, h2⟩)).val
      = (S16x2048x1024.rowMajor j).val := by
    rw [Shape.rowMajor_val_two, Shape.rowMajor_val_three]
    show (2048 * (j 0).val + (j 1).val) * 1024 + (j 2).val = ((j 0).val * 2048 + (j 1).val) * 1024 + (j 2).val
    omega
  have hX : X m d (ix2 (n0 := 32768) (n1 := 1024) ⟨2048 * (j 0).val + (j 1).val, by omega⟩ ⟨(j 2).val, h2⟩) = m (aLoc d) j :=
    shapeCast_apply (s := S16x2048x1024) (t := S32768x1024) _ _ _ j hk.symm
  refine (shapeCast_apply (s := S32768x1024) (t := S16x2048x1024) _ _ j _ hk).trans ?_
  unfold R outRows masked
  rw [hX]
  have hl : lenRow (m (lLoc d)) (ix2 (n0 := 32768) (n1 := 1024) ⟨2048 * (j 0).val + (j 1).val, by omega⟩ ⟨(j 2).val, h2⟩)
      = m (lLoc d) (ix1 (n := 16) (j 0)) := by
    unfold lenRow
    exact congrArg (m (lLoc d)) (funext fun a => match a with
      | ⟨0, _⟩ => Fin.ext (by show (2048 * (j 0).val + (j 1).val) / 2048 = (j 0).val; omega))
  rw [hl]
  have hi := lt_cntAt (2048 * (j 0).val + (j 1).val) (m (lLoc d) (ix1 (n := 16) (j 0))) (h _)
  rw [show (2048 * (j 0).val + (j 1).val) % 2048 = (j 1).val by omega] at hi
  exact if_congr hi rfl rfl

end Cert.PadMask

end
-- ==== Proof.Claims.lean ====
/-
  The claims about the kernel: it runs, from any arguments, and its result is the reference's when the lengths are in
  range. The run is stated once, over any floats; the machine's program and the exact one are its two readings.
-/
module

public import proofs.«01_k».proof.Proof.Equation
public import proofs.«01_k».proof.Proof.Gen.Kernel

@[expose] public section

noncomputable section

namespace Cert.PadMask

open Cert.KernelIdeal
open Idealize.ShloMosaic Idealize.SL.Sem

/-- What the precondition says of each length: subtracting 1024 from it stays within the 32-bit integers. -/
theorem lens_of_pre {F : FTy → Type} [FloatOps F] (x : S16x2048x1024.Idx → F .f32) (l : S16.Idx → BitVec 32)
    (h : Cert.Pre_lens_in_range.fn x l = fun _ => 1#1) (i : S16.Idx) : -2147482624 ≤ (l i).toInt := by
  have e : IntOp.cmpi .sge (l i) 2147484672#32 = 1#1 := congrFun h i
  simp only [IntOp.cmpi, BitVec.sle_eq_decide] at e
  by_cases hd : (2147484672#32 : BitVec 32).toInt ≤ (l i).toInt
  · exact hd
  · rw [decide_eq_false hd] at e; exact absurd e (by decide)

set_option maxHeartbeats 4000000 in
set_option maxRecDepth 16384 in
/-- The program of the machine runs: its arguments stay and every counter ends at zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- So does the exact one. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

set_option maxHeartbeats 4000000 in
set_option maxRecDepth 16384 in
/-- The machine's program computes what the reference computes, bit for bit. -/
theorem bitexact : Cert.bitexact_Kernel_Reference_pre_lens_in_range := by
  intro m g m' g' hpre hargs
  refine ⟨fun c => masked (F := Bits) (m ((c.tc : Thread Cert.Kernel.nD Cert.Kernel.τ).loc Cert.Kernel.main_arg1))
    (m ((c.tc : Thread Cert.Kernel.nD Cert.Kernel.τ).loc Cert.Kernel.main_arg0)), ?_, ?_⟩
  · exact (θ_run Cert.KernelIdeal.defs _ _).mono
      (fun _ h c => ⟨(h.1 c).2.2.trans (Y_eq (F := Bits) m c (lens_of_pre _ _ (hpre c))), (h.1 c).1, (h.1 c).2.1⟩)
      (run_main (F := Bits) m g)
  · exact (θ_run Cert.Reference.defs _ _).mono
      (fun _ h c => ⟨((h c).1.trans (refOut_eq (F := Bits) _ _)).trans
        (congrArg₂ (masked (F := Bits)) (hargs c).2 (hargs c).1), (h c).2⟩)
      (Cert.Reference.Value.run (F := Bits) m' g')

set_option maxRecDepth 16384 in
/-- Over the extended reals the two programs' results are equal. -/
theorem algebraic : Cert.algebraic_KernelIdeal_ReferenceIdeal_pre_lens_in_range := by
  intro m g m' g' hpre hargs
  refine ⟨fun c => masked (F := Ideal) (m (lLoc c)) (m (aLoc c)), ?_, ?_⟩
  · exact (θ_run Cert.KernelIdeal.defs _ _).mono
      (fun _ h c => ⟨(h.1 c).2.2.trans (Y_eq (F := Ideal) m c (lens_of_pre _ _ (hpre c))), (h.1 c).1, (h.1 c).2.1⟩)
      (run_main (F := Ideal) m g)
  · exact (θ_run Cert.ReferenceIdeal.defs _ _).mono
      (fun _ h c => ⟨((h c).1.trans (refOut_eq (F := Ideal) _ _)).trans
        (congrArg₂ (masked (F := Ideal)) (hargs c).2 (hargs c).1), (h c).2⟩)
      (Cert.ReferenceIdeal.Value.run (F := Ideal) m' g')

end Cert.PadMask

end
-- ==== Proof.lean ====
/-
  The claim: the kernel's frames, the references', the kernel's two readings related, and the kernel's result equal to the
  reference's, bit for bit and over the extended reals.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_lens_in_range

@[expose] public section

noncomputable section

namespace Cert.Proof

open Cert.PadMask

/-- Everything claimed. -/
theorem claim : Cert.Claim :=
  ⟨Cert.Kernel.Gen.facts, Cert.KernelIdeal.Gen.facts, Cert.ReferenceIdeal.Gen.facts, Cert.Reference.Gen.facts, Cert.Pre_lens_in_range.Gen.facts,
    frame_kernel, fun m g _ => frame_kernel m g trivial, frame_kernelIdeal, fun m g _ => frame_kernelIdeal m g trivial,
    frame_referenceIdeal, fun m g _ => frame_referenceIdeal m g trivial, frame_reference, trivial, bitexact, algebraic⟩

end Cert.Proof

end
